-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 4096, 8192]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 1024]⟩ ⟨2, ![4, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S1024x1024 : Shape := ⟨2, ![1024, 1024]⟩
abbrev S8192x1024 : Shape := ⟨2, ![8192, 1024]⟩
abbrev S7x1024x1024 : Shape := ⟨3, ![7, 1024, 1024]⟩
abbrev S7 : Shape := ⟨1, ![7]⟩
abbrev S_ : Shape := ⟨0, ![]⟩
abbrev S3x1024 : Shape := ⟨2, ![3, 1024]⟩
abbrev S1x1024x1024 : Shape := ⟨3, ![1, 1024, 1024]⟩
abbrev S1027x1024 : Shape := ⟨2, ![1027, 1024]⟩
abbrev S1x1024 : Shape := ⟨2, ![1, 1024]⟩
abbrev S1 : Shape := ⟨1, ![1]⟩
abbrev S1x1027x1024 : Shape := ⟨3, ![1, 1027, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .bf16⟩
  | .hbm, ⟨1, _⟩ => ⟨S4x1024, .f32⟩
  | .hbm, ⟨2, _⟩ => ⟨S1024x1024, .bf16⟩
  | .hbm, ⟨3, _⟩ => ⟨S8192x1024, .bf16⟩
  | .local _ .vmem, ⟨0, _⟩ => ⟨S2x4096x1024, .bf16⟩
  | .local _ .vmem, ⟨1, _⟩ => ⟨S4x1024, .f32⟩
  | .local _ .vmem, ⟨2, _⟩ => ⟨S1024x1024, .bf16⟩
  | .local _ .vmem, ⟨3, _⟩ => ⟨S8192x1024, .bf16⟩
  | .local _ .vmem, ⟨4, _⟩ => ⟨S7x1024x1024, .bf16⟩
  | .local _ .vmem, ⟨5, _⟩ => ⟨S1024x1024, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_44 : BitVec 32 := 0#32
  let v71 : BitVec 1 := Scalar.cmpi .ne v2 c0_i32_44
  let v72 : BitVec 32 := Scalar.extui v71
  let c0_i32_45 : BitVec 32 := 0#32
  let v73 : BitVec 1 := Scalar.cmpi .ne v72 c0_i32_45
  v73

def k0_off1 (d0 : Dev nD) : Fin 1 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v68 : BitVec 32 := Scalar.subi c0_i32_41 v2
  let c8_i32_42 : BitVec 32 := 8#32
  let v69 : BitVec 32 := Scalar.addi v68 c8_i32_42
  let c8_i32_43 : BitVec 32 := 8#32
  let v70 : BitVec 32 := Scalar.remsi v69 c8_i32_43
  let c1_i32_404 : BitVec 32 := 1#32
  let v579 : BitVec 32 := Scalar.subi v70 c1_i32_404
  ![v579.toNat]
def k0_off2 (d0 : Dev nD) : Fin 3 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v68 : BitVec 32 := Scalar.subi c0_i32_41 v2
  let c8_i32_42 : BitVec 32 := 8#32
  let v69 : BitVec 32 := Scalar.addi v68 c8_i32_42
  let c8_i32_43 : BitVec 32 := 8#32
  let v70 : BitVec 32 := Scalar.remsi v69 c8_i32_43
  let c1_i32_403 : BitVec 32 := 1#32
  let v578 : BitVec 32 := Scalar.subi v70 c1_i32_403
  let c0_i32_409 : BitVec 32 := 0#32
  let c0_i32_410 : BitVec 32 := 0#32
  ![v578.toNat, 0, 0]
def k0_dev8 : Nat :=
  let c0_i32_408 : BitVec 32 := 0#32
  let c0_i32_406 : BitVec 32 := 0#32
  let c1_i32_407 : BitVec 32 := 1#32
  let v581 : BitVec 32 := Scalar.muli c0_i32_406 c1_i32_407
  let v582 : BitVec 32 := Scalar.addi c0_i32_408 v581
  v582.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v109 : BitVec 1 := Scalar.cmpi .ne v2 c1_i32_61
  let v110 : BitVec 32 := Scalar.extui v109
  let c0_i32_62 : BitVec 32 := 0#32
  let v111 : BitVec 1 := Scalar.cmpi .ne v110 c0_i32_62
  v111

def k0_off3 (d0 : Dev nD) : Fin 1 → Nat :=
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v106 : BitVec 32 := Scalar.subi c1_i32_58 v2
  let c8_i32_59 : BitVec 32 := 8#32
  let v107 : BitVec 32 := Scalar.addi v106 c8_i32_59
  let c8_i32_60 : BitVec 32 := 8#32
  let v108 : BitVec 32 := Scalar.remsi v107 c8_i32_60
  let c1_i32_404 : BitVec 32 := 1#32
  let v579 : BitVec 32 := Scalar.subi v108 c1_i32_404
  ![v579.toNat]
def k0_off4 (d0 : Dev nD) : Fin 3 → Nat :=
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v106 : BitVec 32 := Scalar.subi c1_i32_58 v2
  let c8_i32_59 : BitVec 32 := 8#32
  let v107 : BitVec 32 := Scalar.addi v106 c8_i32_59
  let c8_i32_60 : BitVec 32 := 8#32
  let v108 : BitVec 32 := Scalar.remsi v107 c8_i32_60
  let c1_i32_403 : BitVec 32 := 1#32
  let v578 : BitVec 32 := Scalar.subi v108 c1_i32_403
  let c0_i32_409 : BitVec 32 := 0#32
  let c0_i32_410 : BitVec 32 := 0#32
  ![v578.toNat, 0, 0]
def k0_dev9 : Nat :=
  let c0_i32_408 : BitVec 32 := 0#32
  let c1_i32_406 : BitVec 32 := 1#32
  let c1_i32_407 : BitVec 32 := 1#32
  let v581 : BitVec 32 := Scalar.muli c1_i32_406 c1_i32_407
  let v582 : BitVec 32 := Scalar.addi c0_i32_408 v581
  v582.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_78 : BitVec 32 := 2#32
  let v147 : BitVec 1 := Scalar.cmpi .ne v2 c2_i32_78
  let v148 : BitVec 32 := Scalar.extui v147
  let c0_i32_79 : BitVec 32 := 0#32
  let v149 : BitVec 1 := Scalar.cmpi .ne v148 c0_i32_79
  v149

def k0_off5 (d0 : Dev nD) : Fin 1 → Nat :=
  let c2_i32_75 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v144 : BitVec 32 := Scalar.subi c2_i32_75 v2
  let c8_i32_76 : BitVec 32 := 8#32
  let v145 : BitVec 32 := Scalar.addi v144 c8_i32_76
  let c8_i32_77 : BitVec 32 := 8#32
  let v146 : BitVec 32 := Scalar.remsi v145 c8_i32_77
  let c1_i32_404 : BitVec 32 := 1#32
  let v579 : BitVec 32 := Scalar.subi v146 c1_i32_404
  ![v579.toNat]
def k0_off6 (d0 : Dev nD) : Fin 3 → Nat :=
  let c2_i32_75 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v144 : BitVec 32 := Scalar.subi c2_i32_75 v2
  let c8_i32_76 : BitVec 32 := 8#32
  let v145 : BitVec 32 := Scalar.addi v144 c8_i32_76
  let c8_i32_77 : BitVec 32 := 8#32
  let v146 : BitVec 32 := Scalar.remsi v145 c8_i32_77
  let c1_i32_403 : BitVec 32 := 1#32
  let v578 : BitVec 32 := Scalar.subi v146 c1_i32_403
  let c0_i32_409 : BitVec 32 := 0#32
  let c0_i32_410 : BitVec 32 := 0#32
  ![v578.toNat, 0, 0]
def k0_dev10 : Nat :=
  let c0_i32_408 : BitVec 32 := 0#32
  let c2_i32_406 : BitVec 32 := 2#32
  let c1_i32_407 : BitVec 32 := 1#32
  let v581 : BitVec 32 := Scalar.muli c2_i32_406 c1_i32_407
  let v582 : BitVec 32 := Scalar.addi c0_i32_408 v581
  v582.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_95 : BitVec 32 := 3#32
  let v185 : BitVec 1 := Scalar.cmpi .ne v2 c3_i32_95
  let v186 : BitVec 32 := Scalar.extui v185
  let c0_i32_96 : BitVec 32 := 0#32
  let v187 : BitVec 1 := Scalar.cmpi .ne v186 c0_i32_96
  v187

def k0_off7 (d0 : Dev nD) : Fin 1 → Nat :=
  let c3_i32_92 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.subi c3_i32_92 v2
  let c8_i32_93 : BitVec 32 := 8#32
  let v183 : BitVec 32 := Scalar.addi v182 c8_i32_93
  let c8_i32_94 : BitVec 32 := 8#32
  let v184 : BitVec 32 := Scalar.remsi v183 c8_i32_94
  let c1_i32_404 : BitVec 32 := 1#32
  let v579 : BitVec 32 := Scalar.subi v184 c1_i32_404
  ![v579.toNat]
def k0_off8 (d0 : Dev nD) : Fin 3 → Nat :=
  let c3_i32_92 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.subi c3_i32_92 v2
  let c8_i32_93 : BitVec 32 := 8#32
  let v183 : BitVec 32 := Scalar.addi v182 c8_i32_93
  let c8_i32_94 : BitVec 32 := 8#32
  let v184 : BitVec 32 := Scalar.remsi v183 c8_i32_94
  let c1_i32_403 : BitVec 32 := 1#32
  let v578 : BitVec 32 := Scalar.subi v184 c1_i32_403
  let c0_i32_409 : BitVec 32 := 0#32
  let c0_i32_410 : BitVec 32 := 0#32
  ![v578.toNat, 0, 0]
def k0_dev11 : Nat :=
  let c0_i32_408 : BitVec 32 := 0#32
  let c3_i32_406 : BitVec 32 := 3#32
  let c1_i32_407 : BitVec 32 := 1#32
  let v581 : BitVec 32 := Scalar.muli c3_i32_406 c1_i32_407
  let v582 : BitVec 32 := Scalar.addi c0_i32_408 v581
  v582.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_114 : BitVec 32 := 4#32
  let v225 : BitVec 1 := Scalar.cmpi .ne v2 c4_i32_114
  let v226 : BitVec 32 := Scalar.extui v225
  let c0_i32_115 : BitVec 32 := 0#32
  let v227 : BitVec 1 := Scalar.cmpi .ne v226 c0_i32_115
  v227

def k0_off9 (d0 : Dev nD) : Fin 1 → Nat :=
  let c4_i32_111 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v222 : BitVec 32 := Scalar.subi c4_i32_111 v2
  let c8_i32_112 : BitVec 32 := 8#32
  let v223 : BitVec 32 := Scalar.addi v222 c8_i32_112
  let c8_i32_113 : BitVec 32 := 8#32
  let v224 : BitVec 32 := Scalar.remsi v223 c8_i32_113
  let c1_i32_404 : BitVec 32 := 1#32
  let v579 : BitVec 32 := Scalar.subi v224 c1_i32_404
  ![v579.toNat]
def k0_off10 (d0 : Dev nD) : Fin 3 → Nat :=
  let c4_i32_111 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v222 : BitVec 32 := Scalar.subi c4_i32_111 v2
  let c8_i32_112 : BitVec 32 := 8#32
  let v223 : BitVec 32 := Scalar.addi v222 c8_i32_112
  let c8_i32_113 : BitVec 32 := 8#32
  let v224 : BitVec 32 := Scalar.remsi v223 c8_i32_113
  let c1_i32_403 : BitVec 32 := 1#32
  let v578 : BitVec 32 := Scalar.subi v224 c1_i32_403
  let c0_i32_409 : BitVec 32 := 0#32
  let c0_i32_410 : BitVec 32 := 0#32
  ![v578.toNat, 0, 0]
def k0_dev12 : Nat :=
  let c0_i32_408 : BitVec 32 := 0#32
  let c4_i32_406 : BitVec 32 := 4#32
  let c1_i32_407 : BitVec 32 := 1#32
  let v581 : BitVec 32 := Scalar.muli c4_i32_406 c1_i32_407
  let v582 : BitVec 32 := Scalar.addi c0_i32_408 v581
  v582.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_132 : BitVec 32 := 5#32
  let v263 : BitVec 1 := Scalar.cmpi .ne v2 c5_i32_132
  let v264 : BitVec 32 := Scalar.extui v263
  let c0_i32_133 : BitVec 32 := 0#32
  let v265 : BitVec 1 := Scalar.cmpi .ne v264 c0_i32_133
  v265

def k0_off11 (d0 : Dev nD) : Fin 1 → Nat :=
  let c5_i32_129 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi c5_i32_129 v2
  let c8_i32_130 : BitVec 32 := 8#32
  let v261 : BitVec 32 := Scalar.addi v260 c8_i32_130
  let c8_i32_131 : BitVec 32 := 8#32
  let v262 : BitVec 32 := Scalar.remsi v261 c8_i32_131
  let c1_i32_404 : BitVec 32 := 1#32
  let v579 : BitVec 32 := Scalar.subi v262 c1_i32_404
  ![v579.toNat]
def k0_off12 (d0 : Dev nD) : Fin 3 → Nat :=
  let c5_i32_129 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v260 : BitVec 32 := Scalar.subi c5_i32_129 v2
  let c8_i32_130 : BitVec 32 := 8#32
  let v261 : BitVec 32 := Scalar.addi v260 c8_i32_130
  let c8_i32_131 : BitVec 32 := 8#32
  let v262 : BitVec 32 := Scalar.remsi v261 c8_i32_131
  let c1_i32_403 : BitVec 32 := 1#32
  let v578 : BitVec 32 := Scalar.subi v262 c1_i32_403
  let c0_i32_409 : BitVec 32 := 0#32
  let c0_i32_410 : BitVec 32 := 0#32
  ![v578.toNat, 0, 0]
def k0_dev13 : Nat :=
  let c0_i32_408 : BitVec 32 := 0#32
  let c5_i32_406 : BitVec 32 := 5#32
  let c1_i32_407 : BitVec 32 := 1#32
  let v581 : BitVec 32 := Scalar.muli c5_i32_406 c1_i32_407
  let v582 : BitVec 32 := Scalar.addi c0_i32_408 v581
  v582.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_150 : BitVec 32 := 6#32
  let v301 : BitVec 1 := Scalar.cmpi .ne v2 c6_i32_150
  let v302 : BitVec 32 := Scalar.extui v301
  let c0_i32_151 : BitVec 32 := 0#32
  let v303 : BitVec 1 := Scalar.cmpi .ne v302 c0_i32_151
  v303

def k0_off13 (d0 : Dev nD) : Fin 1 → Nat :=
  let c6_i32_147 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v298 : BitVec 32 := Scalar.subi c6_i32_147 v2
  let c8_i32_148 : BitVec 32 := 8#32
  let v299 : BitVec 32 := Scalar.addi v298 c8_i32_148
  let c8_i32_149 : BitVec 32 := 8#32
  let v300 : BitVec 32 := Scalar.remsi v299 c8_i32_149
  let c1_i32_404 : BitVec 32 := 1#32
  let v579 : BitVec 32 := Scalar.subi v300 c1_i32_404
  ![v579.toNat]
def k0_off14 (d0 : Dev nD) : Fin 3 → Nat :=
  let c6_i32_147 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v298 : BitVec 32 := Scalar.subi c6_i32_147 v2
  let c8_i32_148 : BitVec 32 := 8#32
  let v299 : BitVec 32 := Scalar.addi v298 c8_i32_148
  let c8_i32_149 : BitVec 32 := 8#32
  let v300 : BitVec 32 := Scalar.remsi v299 c8_i32_149
  let c1_i32_403 : BitVec 32 := 1#32
  let v578 : BitVec 32 := Scalar.subi v300 c1_i32_403
  let c0_i32_409 : BitVec 32 := 0#32
  let c0_i32_410 : BitVec 32 := 0#32
  ![v578.toNat, 0, 0]
def k0_dev14 : Nat :=
  let c0_i32_408 : BitVec 32 := 0#32
  let c6_i32_406 : BitVec 32 := 6#32
  let c1_i32_407 : BitVec 32 := 1#32
  let v581 : BitVec 32 := Scalar.muli c6_i32_406 c1_i32_407
  let v582 : BitVec 32 := Scalar.addi c0_i32_408 v581
  v582.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_168 : BitVec 32 := 7#32
  let v339 : BitVec 1 := Scalar.cmpi .ne v2 c7_i32_168
  let v340 : BitVec 32 := Scalar.extui v339
  let c0_i32_169 : BitVec 32 := 0#32
  let v341 : BitVec 1 := Scalar.cmpi .ne v340 c0_i32_169
  v341

def k0_off15 (d0 : Dev nD) : Fin 1 → Nat :=
  let c7_i32_165 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v336 : BitVec 32 := Scalar.subi c7_i32_165 v2
  let c8_i32_166 : BitVec 32 := 8#32
  let v337 : BitVec 32 := Scalar.addi v336 c8_i32_166
  let c8_i32_167 : BitVec 32 := 8#32
  let v338 : BitVec 32 := Scalar.remsi v337 c8_i32_167
  let c1_i32_404 : BitVec 32 := 1#32
  let v579 : BitVec 32 := Scalar.subi v338 c1_i32_404
  ![v579.toNat]
def k0_off16 (d0 : Dev nD) : Fin 3 → Nat :=
  let c7_i32_165 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v336 : BitVec 32 := Scalar.subi c7_i32_165 v2
  let c8_i32_166 : BitVec 32 := 8#32
  let v337 : BitVec 32 := Scalar.addi v336 c8_i32_166
  let c8_i32_167 : BitVec 32 := 8#32
  let v338 : BitVec 32 := Scalar.remsi v337 c8_i32_167
  let c1_i32_403 : BitVec 32 := 1#32
  let v578 : BitVec 32 := Scalar.subi v338 c1_i32_403
  let c0_i32_409 : BitVec 32 := 0#32
  let c0_i32_410 : BitVec 32 := 0#32
  ![v578.toNat, 0, 0]
def k0_dev15 : Nat :=
  let c0_i32_408 : BitVec 32 := 0#32
  let c7_i32_406 : BitVec 32 := 7#32
  let c1_i32_407 : BitVec 32 := 1#32
  let v581 : BitVec 32 := Scalar.muli c7_i32_406 c1_i32_407
  let v582 : BitVec 32 := Scalar.addi c0_i32_408 v581
  v582.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v342 : BitVec 32 := Scalar.muli v2 c1024_i32
  let v343 : Index := Scalar.indexCast v342
  let c0_170 : Index := 0#32
  ![v343.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_286 : BitVec 32 := 1024#32
  let v454 : BitVec 32 := Scalar.muli v2 c1024_i32_286
  let c0_i32_291 : BitVec 32 := 0#32
  ![v454.toNat, 0]
def k0_dev16 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_284 : BitVec 32 := 1#32
  let v452 : BitVec 32 := Scalar.addi v2 c1_i32_284
  let c8_i32_285 : BitVec 32 := 8#32
  let v453 : BitVec 32 := Scalar.remsi v452 c8_i32_285
  let c1_i32_289 : BitVec 32 := 1#32
  let v455 : BitVec 32 := Scalar.muli v453 c1_i32_289
  let v456 : BitVec 32 := Scalar.addi c0_i32_290 v455
  v456.toNat
def k0_dev17 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_292 : BitVec 32 := 2#32
  let v462 : BitVec 32 := Scalar.addi v2 c2_i32_292
  let c8_i32_293 : BitVec 32 := 8#32
  let v463 : BitVec 32 := Scalar.remsi v462 c8_i32_293
  let c1_i32_297 : BitVec 32 := 1#32
  let v465 : BitVec 32 := Scalar.muli v463 c1_i32_297
  let v466 : BitVec 32 := Scalar.addi c0_i32_298 v465
  v466.toNat
def k0_dev18 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_300 : BitVec 32 := 3#32
  let v472 : BitVec 32 := Scalar.addi v2 c3_i32_300
  let c8_i32_301 : BitVec 32 := 8#32
  let v473 : BitVec 32 := Scalar.remsi v472 c8_i32_301
  let c1_i32_305 : BitVec 32 := 1#32
  let v475 : BitVec 32 := Scalar.muli v473 c1_i32_305
  let v476 : BitVec 32 := Scalar.addi c0_i32_306 v475
  v476.toNat
def k0_dev19 (d0 : Dev nD) : Nat :=
  let c0_i32_314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_308 : BitVec 32 := 4#32
  let v482 : BitVec 32 := Scalar.addi v2 c4_i32_308
  let c8_i32_309 : BitVec 32 := 8#32
  let v483 : BitVec 32 := Scalar.remsi v482 c8_i32_309
  let c1_i32_313 : BitVec 32 := 1#32
  let v485 : BitVec 32 := Scalar.muli v483 c1_i32_313
  let v486 : BitVec 32 := Scalar.addi c0_i32_314 v485
  v486.toNat
def k0_dev20 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_316 : BitVec 32 := 5#32
  let v492 : BitVec 32 := Scalar.addi v2 c5_i32_316
  let c8_i32_317 : BitVec 32 := 8#32
  let v493 : BitVec 32 := Scalar.remsi v492 c8_i32_317
  let c1_i32_321 : BitVec 32 := 1#32
  let v495 : BitVec 32 := Scalar.muli v493 c1_i32_321
  let v496 : BitVec 32 := Scalar.addi c0_i32_322 v495
  v496.toNat
def k0_dev21 (d0 : Dev nD) : Nat :=
  let c0_i32_330 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_324 : BitVec 32 := 6#32
  let v502 : BitVec 32 := Scalar.addi v2 c6_i32_324
  let c8_i32_325 : BitVec 32 := 8#32
  let v503 : BitVec 32 := Scalar.remsi v502 c8_i32_325
  let c1_i32_329 : BitVec 32 := 1#32
  let v505 : BitVec 32 := Scalar.muli v503 c1_i32_329
  let v506 : BitVec 32 := Scalar.addi c0_i32_330 v505
  v506.toNat
def k0_dev22 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_332 : BitVec 32 := 7#32
  let v512 : BitVec 32 := Scalar.addi v2 c7_i32_332
  let c8_i32_333 : BitVec 32 := 8#32
  let v513 : BitVec 32 := Scalar.remsi v512 c8_i32_333
  let c1_i32_337 : BitVec 32 := 1#32
  let v515 : BitVec 32 := Scalar.muli v513 c1_i32_337
  let v516 : BitVec 32 := Scalar.addi c0_i32_338 v515
  v516.toNat
abbrev stage0_0 : Fin 1 → Memref sig .tc .vmem S2x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x4096x8192 : Shape := ⟨3, ![2, 4096, 8192]⟩
abbrev S4x8192 : Shape := ⟨2, ![4, 8192]⟩
abbrev S8192x1024 : Shape := ⟨2, ![8192, 1024]⟩
abbrev S_ : Shape := ⟨0, ![]⟩
abbrev S2x3x8192 : Shape := ⟨3, ![2, 3, 8192]⟩
abbrev S2x4099x8192 : Shape := ⟨3, ![2, 4099, 8192]⟩
abbrev S1x8192 : Shape := ⟨2, ![1, 8192]⟩
abbrev S8192 : Shape := ⟨1, ![8192]⟩
abbrev S1x1x8192 : Shape := ⟨3, ![1, 1, 8192]⟩
abbrev S2x4096x1024 : Shape := ⟨3, ![2, 4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x8192, .bf16⟩
  | .hbm, ⟨1, _⟩ => ⟨S4x8192, .f32⟩
  | .hbm, ⟨2, _⟩ => ⟨S8192x1024, .bf16⟩
  | .hbm, ⟨3, _⟩ => ⟨S2x4096x8192, .f32⟩
  | .hbm, ⟨4, _⟩ => ⟨S8192x1024, .f32⟩
  | .hbm, ⟨5, _⟩ => ⟨S_, .f32⟩
  | .hbm, ⟨6, _⟩ => ⟨S2x3x8192, .f32⟩
  | .hbm, ⟨7, _⟩ => ⟨S2x4099x8192, .f32⟩
  | .hbm, ⟨8, _⟩ => ⟨S_, .f32⟩
  | .hbm, ⟨9, _⟩ => ⟨S2x4096x8192, .f32⟩
  | .hbm, ⟨10, _⟩ => ⟨S2x4096x8192, .f32⟩
  | .hbm, ⟨11, _⟩ => ⟨S1x8192, .f32⟩
  | .hbm, ⟨12, _⟩ => ⟨S8192, .f32⟩
  | .hbm, ⟨13, _⟩ => ⟨S1x1x8192, .f32⟩
  | .hbm, ⟨14, _⟩ => ⟨S2x4096x8192, .f32⟩
  | .hbm, ⟨15, _⟩ => ⟨S2x4096x8192, .f32⟩
  | .hbm, ⟨16, _⟩ => ⟨S2x4096x8192, .f32⟩
  | .hbm, ⟨17, _⟩ => ⟨S2x4096x8192, .f32⟩
  | .hbm, ⟨18, _⟩ => ⟨S1x8192, .f32⟩
  | .hbm, ⟨19, _⟩ => ⟨S8192, .f32⟩
  | .hbm, ⟨20, _⟩ => ⟨S1x1x8192, .f32⟩
  | .hbm, ⟨21, _⟩ => ⟨S2x4096x8192, .f32⟩
  | .hbm, ⟨22, _⟩ => ⟨S2x4096x8192, .f32⟩
  | .hbm, ⟨23, _⟩ => ⟨S2x4096x8192, .f32⟩
  | .hbm, ⟨24, _⟩ => ⟨S2x4096x8192, .f32⟩
  | .hbm, ⟨25, _⟩ => ⟨S1x8192, .f32⟩
  | .hbm, ⟨26, _⟩ => ⟨S8192, .f32⟩
  | .hbm, ⟨27, _⟩ => ⟨S1x1x8192, .f32⟩
  | .hbm, ⟨28, _⟩ => ⟨S2x4096x8192, .f32⟩
  | .hbm, ⟨29, _⟩ => ⟨S2x4096x8192, .f32⟩
  | .hbm, ⟨30, _⟩ => ⟨S2x4096x8192, .f32⟩
  | .hbm, ⟨31, _⟩ => ⟨S2x4096x8192, .f32⟩
  | .hbm, ⟨32, _⟩ => ⟨S1x8192, .f32⟩
  | .hbm, ⟨33, _⟩ => ⟨S8192, .f32⟩
  | .hbm, ⟨34, _⟩ => ⟨S1x1x8192, .f32⟩
  | .hbm, ⟨35, _⟩ => ⟨S2x4096x8192, .f32⟩
  | .hbm, ⟨36, _⟩ => ⟨S2x4096x8192, .f32⟩
  | .hbm, ⟨37, _⟩ => ⟨S2x4096x8192, .f32⟩
  | .hbm, ⟨38, _⟩ => ⟨S2x4096x8192, .f32⟩
  | .hbm, ⟨39, _⟩ => ⟨S2x4096x8192, .f32⟩
  | .hbm, ⟨40, _⟩ => ⟨S_, .f32⟩
  | .hbm, ⟨41, _⟩ => ⟨S2x4096x8192, .f32⟩
  | .hbm, ⟨42, _⟩ => ⟨S2x4096x8192, .f32⟩
  | .hbm, ⟨43, _⟩ => ⟨S2x4096x8192, .f32⟩
  | .hbm, ⟨44, _⟩ => ⟨S2x4096x1024, .f32⟩
  | .hbm, ⟨45, _⟩ => ⟨S8192x1024, .f32⟩
  | .hbm, ⟨46, _⟩ => ⟨S8192x1024, .bf16⟩
  | _, _ => ⟨S2x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩

abbrev nD : Nat := 1
abbrev τ : Topo := Topo.v7x

variable {F : FTy → Type} [FloatOps F]
-- ==== Proof.Rows.lean ====
/-
  The mathematics: a causal convolution with four taps along the rows, `y ↦ y / (1 + exp (-y))`, and a product with the
  weights, over the extended reals and for any number of channels.
-/
module

public import Idealize.ShloMosaic.Lib.Pointwise

@[expose] public section

noncomputable section

namespace Cert.Mesh

open Idealize.ShloMosaic
open scoped BigOperators

variable {C : ℕ}

/-- Row `n` of batch entry `b` of the activations with three rows of zeros put before them. -/
def padded (x : (⟨3, ![2, 4096, C]⟩ : Shape).Idx → EReal) (b : Fin 2) (n : Fin 4099) (e : Fin C) : EReal :=
  if h : n.val < 3 then 0 else x (ix3 b ⟨n.val - 3, by have := n.isLt; omega⟩ e)

/-- Row `n` of the convolution. -/
def conv (x : (⟨3, ![2, 4096, C]⟩ : Shape).Idx → EReal) (k : (⟨2, ![4, C]⟩ : Shape).Idx → EReal) (b : Fin 2) (n : Fin 4096) (e : Fin C) : EReal :=
  ∑ t : Fin 4, padded x b ⟨n.val + t.val, by have := n.isLt; have := t.isLt; omega⟩ e * k (ix2 t e)

/-- `y / (1 + exp (-y))`. -/
def silu (y : EReal) : EReal := Ideal.div y (1 + Ideal.exp (-y))

/-- What channel `e` contributes to row `n` of batch entry `b`, column `o`, of the result. -/
def term (x : (⟨3, ![2, 4096, C]⟩ : Shape).Idx → EReal) (k : (⟨2, ![4, C]⟩ : Shape).Idx → EReal) (w : (⟨2, ![C, 1024]⟩ : Shape).Idx → EReal)
    (b : Fin 2) (n : Fin 4096) (o : Fin 1024) (e : Fin C) : EReal :=
  silu (conv x k b n e) * w (ix2 e o)

/-- The convolution with the last tap added first. -/
theorem conv_last_first (x : (⟨3, ![2, 4096, C]⟩ : Shape).Idx → EReal) (k : (⟨2, ![4, C]⟩ : Shape).Idx → EReal) (b : Fin 2) (n : Fin 4096) (e : Fin C) :
    padded x b ⟨n.val + 3, by have := n.isLt; omega⟩ e * k (ix2 3 e) + padded x b ⟨n.val, by have := n.isLt; omega⟩ e * k (ix2 0 e)
      + padded x b ⟨n.val + 1, by have := n.isLt; omega⟩ e * k (ix2 1 e) + padded x b ⟨n.val + 2, by have := n.isLt; omega⟩ e * k (ix2 2 e)
      = conv x k b n e := by
  unfold conv
  rw [Fin.sum_univ_four, add_assoc, add_assoc, add_comm, ← add_assoc]
  rfl

/-- The convolution with the taps added in turn onto zero. -/
theorem conv_in_turn (x : (⟨3, ![2, 4096, C]⟩ : Shape).Idx → EReal) (k : (⟨2, ![4, C]⟩ : Shape).Idx → EReal) (b : Fin 2) (n : Fin 4096) (e : Fin C) :
    0 + padded x b ⟨n.val, by have := n.isLt; omega⟩ e * k (ix2 0 e) + padded x b ⟨n.val + 1, by have := n.isLt; omega⟩ e * k (ix2 1 e)
      + padded x b ⟨n.val + 2, by have := n.isLt; omega⟩ e * k (ix2 2 e) + padded x b ⟨n.val + 3, by have := n.isLt; omega⟩ e * k (ix2 3 e)
      = conv x k b n e := by
  unfold conv
  rw [Fin.sum_univ_four, zero_add]
  rfl

theorem exp_nonneg (y : EReal) : 0 ≤ Ideal.exp y := by
  induction y with
  | bot => simp
  | top => simp
  | coe r => rw [Ideal.exp_coe]; exact_mod_cast (Real.exp_pos r).le

theorem silu_den (y : EReal) : 1 + Ideal.exp (-y) ≠ 0 := by
  have h : (0 : EReal) < 1 + Ideal.exp (-y) := lt_of_lt_of_le zero_lt_one (le_add_of_nonneg_right (exp_nonneg _))
  exact h.ne'

/-- The product with the logistic function is the quotient. -/
theorem mul_logistic (y : EReal) : y * Ideal.logistic y = silu y := by
  unfold Ideal.logistic silu
  exact Ideal.mul_one_div (silu_den y)

end Cert.Mesh

end
-- ==== Proof.Protocol.lean ====
/-
  The protocol of the eight devices: their offsets from one another, the cells each device has, what
  every round of every cell carries, what a device owes at launch, and the order of the waits.

  A device first signals its seven peers' barrier cells, each signal handing over the landing slot the
  peer will write. It then computes its eight partial blocks and sends block `j` to device `j`, where it
  lands in the slot of the sender's offset. It adds up the eight partial blocks of its own rows and sends
  the sum to every peer, where it lands in the rows of the sender.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the staging pipeline's, and the rounds of this protocol with seven duties -/

abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Offsets between devices -/

set_option backward.proofsInPublic true in
/-- The device `o + 1` places after `c`. -/
def pr (c : Dev nD) (o : Fin 7) : Dev nD := ⟨(c.val + o.val + 1) % 8, Nat.mod_lt _ (by decide)⟩
set_option backward.proofsInPublic true in
/-- How far `j` lies after `c`, less one: for `j` other than `c`, the offset with `pr c (off c j) = j`. -/
def off (c j : Dev nD) : Fin 7 := ⟨((j.val + 7 - c.val) % 8) % 7, Nat.mod_lt _ (by decide)⟩

/-- Going forward by the reverse offset comes back. -/
theorem pr_rev (c : Dev nD) (o : Fin 7) : pr (pr c o) o.rev = c := by revert c o; decide
theorem pr_rev' (c : Dev nD) (o : Fin 7) : pr (pr c o.rev) o = c := by revert c o; decide
theorem pr_ne (c : Dev nD) (o : Fin 7) : pr c o ≠ c := by revert c o; decide
theorem pr_off (c j : Dev nD) (h : j ≠ c) : pr c (off c j) = j := by revert c j; decide
theorem off_pr (c : Dev nD) (o : Fin 7) : off c (pr c o) = o := by revert c o; decide
theorem pr_inj (c : Dev nD) : Function.Injective (pr c) := fun o o' h => by rw [← off_pr c o, h, off_pr]

/-! ## The memrefs, the blocks of rows and the landing slots -/

abbrev xM : Memref sig .tc .vmem S2x4096x1024 .bf16 := Memref.whole cc0_stg0_0
abbrev kM : Memref sig .tc .vmem S4x1024 .f32 := Memref.whole cc0_stg1_0
abbrev wM : Memref sig .tc .vmem S1024x1024 .bf16 := Memref.whole cc0_stg2_0
abbrev oM : Memref sig .tc .vmem S8192x1024 .bf16 := Memref.whole cc0_stg3_0
abbrev rM : Memref sig .tc .vmem S7x1024x1024 .bf16 := Memref.whole cc0_scratch0
abbrev aM : Memref sig .tc .vmem S1024x1024 .bf16 := Memref.whole cc0_scratch1

theorem outInb : ∀ (j : Dev nD) (a : Fin 2), (![1024 * j.val, 0] : Fin 2 → ℕ) a + S1024x1024.size a ≤ S8192x1024.size a := by decide
theorem slotInb : ∀ (o : Fin 7) (a : Fin 3), (![o.val, 0, 0] : Fin 3 → ℕ) a + S1x1024x1024.size a ≤ S7x1024x1024.size a := by decide
theorem semInb : ∀ (o : Fin 7) (a : Fin 1), (![o.val] : Fin 1 → ℕ) a + S1.size a ≤ S7.size a := by decide

/-- The rows of block `j` of the output. -/
abbrev outR (j : Dev nD) : Rect S8192x1024 := Rect.unit (s := S8192x1024) ![1024 * j.val, 0] S1024x1024.size (outInb j)
/-- Landing slot `o`. -/
abbrev slotR (o : Fin 7) : Rect S7x1024x1024 := Rect.unit (s := S7x1024x1024) ![o.val, 0, 0] S1x1024x1024.size (slotInb o)

abbrev outM (j : Dev nD) : Memref sig .tc .vmem S1024x1024 .bf16 := oM.slice (outR j) (fun _ => rfl)
abbrev slotM (o : Fin 7) : Memref sig .tc .vmem S1024x1024 .bf16 :=
  (rM.slice (slotR o) (fun _ => rfl)).squeeze S1024x1024 squeezes_S1x1024x1024_S1024x1024

/-! ## The cells -/

abbrev barS : Sem sig := (SemArray.scalar (sig.barrier 0 rfl) : Sems sig S_).sem

/-- The three rows of DMA semaphores: sends, landings of partial blocks, landings of sums. -/
abbrev semA (a : Fin 3) : DmaSems sig S7 := match a with | 0 => cc0_scratch2 | 1 => cc0_scratch3 | 2 => cc0_scratch4

/-- Semaphore `o` of a row. -/
abbrev semOf (A : DmaSems sig S7) (o : Fin 7) : DmaSem sig :=
  ((A.slice (Rect.unit (s := S7) ![o.val] S1.size (semInb o))).squeeze S_ squeezes_S1_S_).sem

abbrev Cx : Type := Option (Fin 3 × Fin 7)

/-- The kernel's own semaphores. -/
abbrev osem (k : Fin 3 × Fin 7) : SemLoc sig := .dma (semOf (semA k.1) k.2)
/-- Those and the barrier semaphore. -/
abbrev csem : Cx → SemLoc sig := fun | none => .reg barS | some k => osem k

set_option backward.proofsInPublic true in
/-- Which of the cells a semaphore is. -/
def cix (s : SemLoc sig) : Option Cx :=
  match s with
  | .reg s => if s = barS then some none else none
  | .dma q => if h : 4 ≤ q.val then some (some (⟨((q.val - 4) / 7) % 3, Nat.mod_lt _ (by decide)⟩, ⟨(q.val - 4) % 7, Nat.mod_lt _ (by decide)⟩)) else none

theorem cix_csem : ∀ k : Cx, cix (csem k) = some k := by decide +kernel

theorem csem_inj : Function.Injective csem := fun k k' h => by
  have := (cix_csem k).symm.trans ((congrArg cix h).trans (cix_csem k')); exact Option.some.inj this

abbrev cell (c : Dev nD) (k : Cx) : GSem nD τ sig := ((c : Thread nD τ), csem k)
abbrev bar (c : Dev nD) : GSem nD τ sig := cell c none
abbrev snd (c : Dev nD) (o : Fin 7) : GSem nD τ sig := cell c (some (0, o))
abbrev rva (c : Dev nD) (o : Fin 7) : GSem nD τ sig := cell c (some (1, o))
abbrev rvb (c : Dev nD) (o : Fin 7) : GSem nD τ sig := cell c (some (2, o))

theorem dev_tc_inj {c c' : Dev nD} (h : (c : Thread nD τ) = (c' : Thread nD τ)) : c = c' := congrArg Prod.fst h
theorem cell_inj {c c' : Dev nD} {k k' : Cx} (h : cell c k = cell c' k') : c = c' ∧ k = k' :=
  ⟨dev_tc_inj (congrArg Prod.fst h), csem_inj (congrArg Prod.snd h)⟩

/-- What a transfer of one block counts. -/
abbrev N : ℕ := (aM : Memref sig .tc .vmem S1024x1024 .bf16).view.dmaCredit
theorem N_pos : 0 < N := View.dmaCredit_pos _ (by decide)

/-! ## The schedule -/

/-- A block of values at the element type of the output. -/
abbrev Blk (F : FTy → Type) : Type := S1024x1024.Idx → Elt F .bf16

section Sched

-- `P c j`: device `c`'s partial block for the rows of device `j`; `R c`: device `c`'s sum.
variable (P : Dev nD → Dev nD → Blk F) (R : Dev nD → Blk F)

/-- Device `d`'s ownership of a memref, whole share. -/
abbrev own (d : Dev nD) {sp : Space} {sh : Shape} {e : EltTy} (m : Memref sig .tc sp sh e) (X : sh.Idx → Elt F e) : sProp 𝕄 :=
  owns (d : Thread nD τ) m fullShare X

/-- What the signal of the device at offset `o` hands device `d`: the slot `d` will write there. -/
def barPay (d : Dev nD) (o : Fin 7) : sProp 𝕄 := iprop(∃ X, own (pr d o) (slotM o) X)
/-- What the landing of a partial block in slot `o` of `d` hands over: the slot with the block, and the sender's rows of `d`. -/
def rvaPay (d : Dev nD) (o : Fin 7) : sProp 𝕄 :=
  iprop(own d (slotM o) (P (pr d o.rev) d) ∗ own (pr d o.rev) (outM d) (P (pr d o.rev) d))
/-- What the landing of a sum hands over: the sender's rows, holding its sum. -/
def rvbPay (d : Dev nD) (o : Fin 7) : sProp 𝕄 := own d (outM (pr d o.rev)) (R (pr d o.rev))
/-- What the second completion of a send hands back: the share of the sum it read. -/
def sndPay (d : Dev nD) (o : Fin 7) : sProp 𝕄 := owns (d : Thread nD τ) aM (Transfers.shareTok fullShare 7 o) (R d)

def payOf (d : Dev nD) (r : ℕ) (u : Fin 7) : Option Cx → sProp 𝕄
  | none => iprop(emp)
  | some none => barPay d u
  | some (some (a, o)) => if a = 0 then (if r = 0 then iprop(emp) else sndPay R d o) else if a = 1 then rvaPay P d o else rvbPay R d o

def dutiesOf (r : ℕ) : Option Cx → Finset (Fin 7)
  | none => ∅
  | some none => if r = 0 then Finset.univ else ∅
  | some (some (a, _)) => if r = 0 ∨ (a = 0 ∧ r = 1) then {0} else ∅

/-- The rounds: a barrier cell has one, of seven duties of one unit; a landing cell one and a send cell two, each of one block's credit. -/
def sched : Rounds.Schedule (GSem nD τ sig) (Fin 7) 𝕄 where
  duties g r := dutiesOf r (cix g.2)
  unitless _ := False
  amount g _ _ := if cix g.2 = some none then 1 else N
  payload g r u := payOf P R g.1.1 r u (cix g.2)
  amount_pos g _ _ _ := by
    by_cases h : cix g.2 = some none
    · rw [if_pos h]; exact Nat.one_pos
    · rw [if_neg h]; exact N_pos

instance sched_payload_storable (g : GSem nD τ sig) (r : ℕ) (u : Fin 7) :
    BI.Storable (upEmb : UEmb _ 𝕄) ((sched P R).payload g r u) := by
  show BI.Storable upEmb (payOf P R g.1.1 r u (cix g.2))
  unfold payOf barPay rvaPay rvbPay sndPay own
  (repeat' split) <;> infer_instance

variable (c : Dev nD)

omit [FloatOps F] in
theorem duties_bar : (sched P R).duties (bar c) 0 = Finset.univ := by
  show dutiesOf 0 (cix (csem none)) = _; rw [cix_csem]; rfl
omit [FloatOps F] in
theorem duties_dma (a : Fin 3) (o : Fin 7) : (sched P R).duties (cell c (some (a, o))) 0 = {0} := by
  show dutiesOf 0 (cix (csem (some (a, o)))) = _
  rw [cix_csem]; show (if (0:ℕ) = 0 ∨ (a = 0 ∧ (0:ℕ) = 1) then ({0} : Finset (Fin 7)) else ∅) = {0}; exact if_pos (Or.inl rfl)
omit [FloatOps F] in
theorem duties_snd1 (o : Fin 7) : (sched P R).duties (snd c o) 1 = {0} := by
  show dutiesOf 1 (cix (csem (some (0, o)))) = _
  rw [cix_csem]; show (if (1:ℕ) = 0 ∨ ((0 : Fin 3) = 0 ∧ (1:ℕ) = 1) then ({0} : Finset (Fin 7)) else ∅) = {0}; exact if_pos (Or.inr ⟨rfl, rfl⟩)
omit [FloatOps F] in
theorem duties_later (k : Cx) (n : ℕ) (hn : (∀ o, k ≠ some (0, o)) ∧ 1 ≤ n ∨ 2 ≤ n) : (sched P R).duties (cell c k) n = ∅ := by
  show dutiesOf n (cix (csem k)) = _
  rw [cix_csem]
  rcases k with _ | ⟨a, o⟩
  · exact if_neg (by omega)
  · refine if_neg fun h => ?_
    rcases h with h | ⟨h, h'⟩
    · omega
    · rcases hn with ⟨hk, _⟩ | hn
      · exact hk o (by rw [h])
      · omega

omit [FloatOps F] in
theorem amount_bar (u : Fin 7) : (sched P R).amount (bar c) 0 u = 1 := by
  show (if cix (csem none) = some none then 1 else N) = 1; exact if_pos (cix_csem none)
omit [FloatOps F] in
theorem amount_dma (a : Fin 3) (o : Fin 7) (r : ℕ) (u : Fin 7) : (sched P R).amount (cell c (some (a, o))) r u = N := by
  show (if cix (csem (some (a, o))) = some none then 1 else N) = N
  rw [cix_csem]; exact if_neg fun h => by cases h

omit [FloatOps F] in
theorem expect_bar : (sched P R).expect (bar c) 0 = 7 := by
  unfold Schedule.expect Schedule.amountOf
  rw [duties_bar, Finset.sum_congr rfl fun u _ => amount_bar P R c u, Finset.sum_const, Finset.card_univ, Fintype.card_fin, smul_eq_mul]
omit [FloatOps F] in
theorem expect_dma (a : Fin 3) (o : Fin 7) : (sched P R).expect (cell c (some (a, o))) 0 = N := by
  unfold Schedule.expect Schedule.amountOf; rw [duties_dma, Finset.sum_singleton, amount_dma]
omit [FloatOps F] in
theorem expect_snd1 (o : Fin 7) : (sched P R).expect (snd c o) 1 = N := by
  unfold Schedule.expect Schedule.amountOf; rw [duties_snd1, Finset.sum_singleton, amount_dma]

omit [FloatOps F] in
theorem payload_bar (u : Fin 7) : (sched P R).payload (bar c) 0 u = barPay c u := by
  show payOf P R c 0 u (cix (csem none)) = _; rw [cix_csem]; rfl
omit [FloatOps F] in
theorem payload_snd0 (o u : Fin 7) : (sched P R).payload (snd c o) 0 u = iprop(emp) := by
  show payOf P R c 0 u (cix (csem (some (0, o)))) = _; rw [cix_csem]; rfl
omit [FloatOps F] in
theorem payload_snd1 (o u : Fin 7) : (sched P R).payload (snd c o) 1 u = sndPay R c o := by
  show payOf P R c 1 u (cix (csem (some (0, o)))) = _; rw [cix_csem]; rfl
omit [FloatOps F] in
theorem payload_rva (o u : Fin 7) : (sched P R).payload (rva c o) 0 u = rvaPay P c o := by
  show payOf P R c 0 u (cix (csem (some (1, o)))) = _; rw [cix_csem]; rfl
omit [FloatOps F] in
theorem payload_rvb (o u : Fin 7) : (sched P R).payload (rvb c o) 0 u = rvbPay R c o := by
  show payOf P R c 0 u (cix (csem (some (2, o)))) = _; rw [cix_csem]; rfl

omit [FloatOps F] in
/-- All seven slots come with the barrier's round. -/
theorem rest_bar : bigSep ((sched P R).duties (bar c) 0 \ ∅) (fun u => (sched P R).payload (bar c) 0 u) = bigSep Finset.univ fun o => barPay (F := F) c o := by
  rw [Finset.sdiff_empty, duties_bar]; exact bigSep_congr fun u _ => payload_bar P R c u
omit [FloatOps F] in
theorem rest_snd0 (o : Fin 7) : bigSep ((sched P R).duties (snd c o) 0 \ ∅) (fun u => (sched P R).payload (snd c o) 0 u) = iprop(emp) := by
  rw [Finset.sdiff_empty, duties_dma, bigSep_singleton, payload_snd0]
omit [FloatOps F] in
theorem rest_snd1 (o : Fin 7) : bigSep ((sched P R).duties (snd c o) 1 \ ∅) (fun u => (sched P R).payload (snd c o) 1 u) = sndPay R c o := by
  rw [Finset.sdiff_empty, duties_snd1, bigSep_singleton, payload_snd1]
omit [FloatOps F] in
theorem rest_rva (o : Fin 7) : bigSep ((sched P R).duties (rva c o) 0 \ ∅) (fun u => (sched P R).payload (rva c o) 0 u) = rvaPay P c o := by
  rw [Finset.sdiff_empty, duties_dma, bigSep_singleton, payload_rva]
omit [FloatOps F] in
theorem rest_rvb (o : Fin 7) : bigSep ((sched P R).duties (rvb c o) 0 \ ∅) (fun u => (sched P R).payload (rvb c o) 0 u) = rvbPay R c o := by
  rw [Finset.sdiff_empty, duties_dma, bigSep_singleton, payload_rvb]

end Sched

/-! ## What a device owes, and the order of the waits -/

/-- The order: barrier cells first, then the landings of partial blocks, then those of sums; the others carry no debt. -/
def lvOf : Option Cx → ℕ
  | none => 0
  | some none => 1
  | some (some (a, _)) => if a = 0 then 0 else if a = 1 then 2 else 3
def lv (g : GSem nD τ sig) (_ : Unit) : ℕ := lvOf (cix g.2)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cx) : lv (cell c k) () = lvOf (some k) := by show lvOf (cix (csem k)) = _; rw [cix_csem]

/-- Everything owed in `O` is owed to cells above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (k : Cx) (m : ℕ) (hk : n < lvOf (some k)) : Above n (tallyAt (cell c k) () m) := fun g u hg => by
  rw [tallyAt_apply] at hg
  by_cases h : g = cell c k ∧ u = ()
  · rw [h.1]; exact ⟨rfl, by rw [lv_cell]; exact hk⟩
  · rw [if_neg h] at hg; exact absurd hg (Nat.lt_irrefl 0)
theorem above_mono {n n' : ℕ} {O : CellTallies nD τ sig Unit} (hn : n' ≤ n) (h : Above n O) : Above n' O :=
  fun g u hg => ⟨(h g u hg).1, lt_of_le_of_lt hn (h g u hg).2⟩

omit [FloatOps F] in
/-- A device may wait on a semaphore of level at most `n` while it owes only above `n`. -/
theorem mayWait {n : ℕ} (c : Dev nD) (sm : SemLoc sig) (hs : lvOf (cix sm) ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Mesh

end
-- ==== Proof.Steps.lean ====
/-
  One rule per kind of step the kernel takes: a signal, the barrier wait, a load or store of one block of
  rows or one slot, a send of a partial block, a send of the sum, and the waits of each kind.
-/
module

public import proofs.«01_k».proof.Proof.Protocol

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program fragment on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Families over lists -/

/-- `Φ a` for every `a` of a list. -/
def all {α : Type} (l : List α) (Φ : α → sProp 𝕄) : sProp 𝕄 := l.foldr (fun a X => iprop(Φ a ∗ X)) iprop(emp)

omit [FloatOps F] in
theorem all_nil {α : Type} (Φ : α → sProp 𝕄) : all [] Φ = iprop(emp) := rfl
omit [FloatOps F] in
theorem all_cons {α : Type} (a : α) (l : List α) (Φ : α → sProp 𝕄) : all (a :: l) Φ = iprop(Φ a ∗ all l Φ) := rfl

omit [FloatOps F] in
/-- A family over a whole finite type is the family over any list of its elements without repetition. -/
theorem all_of_bigSep {α : Type} [Fintype α] [DecidableEq α] (l : List α) (hu : Finset.univ = l.toFinset) (hl : l.Nodup) (Φ : α → sProp 𝕄) :
    bigSep Finset.univ Φ = all l Φ := by
  rw [hu]; clear hu
  induction l with
  | nil => rw [List.toFinset_nil, bigSep_empty, all_nil]; rfl
  | cons a l ih =>
    rw [List.toFinset_cons, bigSep_insert (by rw [List.mem_toFinset]; exact (List.nodup_cons.mp hl).1), ih (List.nodup_cons.mp hl).2, all_cons]; rfl

omit [FloatOps F] in
theorem all7 (Φ : Fin 7 → sProp 𝕄) : bigSep Finset.univ Φ = all [0, 1, 2, 3, 4, 5, 6] Φ := all_of_bigSep _ (by decide) (by decide) Φ
omit [FloatOps F] in
theorem all7' (Φ : Fin 7 → sProp 𝕄) : bigSep Finset.univ Φ = all [6, 5, 4, 3, 2, 1, 0] Φ := all_of_bigSep _ (by decide) (by decide) Φ
omit [FloatOps F] in
theorem all8 (Φ : Dev nD → sProp 𝕄) : bigSep Finset.univ Φ = all [0, 1, 2, 3, 4, 5, 6, 7] Φ := all_of_bigSep _ (by decide) (by decide) Φ
omit [FloatOps F] in
theorem all8' (Φ : Dev nD → sProp 𝕄) : bigSep Finset.univ Φ = all [7, 6, 5, 4, 3, 2, 1, 0] Φ := all_of_bigSep _ (by decide) (by decide) Φ

omit [FloatOps F] in
/-- One member of a family. -/
theorem pick {α : Type} [Fintype α] [DecidableEq α] (Φ : α → sProp 𝕄) (a : α) : (bigSep Finset.univ Φ : sProp 𝕄) ⊢ Φ a :=
  bigSep_elim (Finset.mem_univ a)

omit [FloatOps F] in
/-- A family over the offsets from `c` is a family over the devices other than `c`. -/
theorem around (c : Dev nD) (Φ : Dev nD → Fin 7 → sProp 𝕄) :
    bigSep Finset.univ (fun o => Φ (pr c o) o) = bigSep Finset.univ fun j : Dev nD => if j = c then iprop(emp) else Φ j (off c j) := by
  have h : (Finset.univ : Finset (Dev nD)).filter (fun j => ¬ j = c) = Finset.univ.map ⟨pr c, pr_inj c⟩ := by revert c; decide
  have h₂ : bigSep Finset.univ (fun j : Dev nD => if j = c then iprop(emp) else Φ j (off c j))
      = bigSep Finset.univ (fun j : Dev nD => if ¬ j = c then Φ j (off c j) else iprop(emp)) :=
    bigSep_congr fun j _ => by by_cases hj : j = c <;> simp [hj]
  rw [h₂]
  refine Eq.trans ?_ (bigSep_filter Finset.univ (fun j : Dev nD => ¬ j = c) fun j => Φ j (off c j))
  rw [h, bigSep_map]
  exact bigSep_congr fun o _ => by rw [show (⟨pr c, pr_inj c⟩ : Fin 7 ↪ Dev nD) o = pr c o from rfl, off_pr]

/-- A device's debt, the waits done so far left unsaid. -/
def ow (c : Dev nD) (O : CellTallies nD τ sig Unit) : sProp 𝕄 := iprop(∃ W, owes (c : Thread nD τ) O W)

/-- Debts over a list, on top of `X`. -/
def debt {α : Type} (l : List α) (f : α → CellTallies nD τ sig Unit) (X : CellTallies nD τ sig Unit) : CellTallies nD τ sig Unit :=
  l.foldr (fun a Y => f a + Y) X

theorem above_debt {α : Type} {n : ℕ} (l : List α) (f : α → CellTallies nD τ sig Unit) {X : CellTallies nD τ sig Unit} (h : ∀ a, Above n (f a)) (hX : Above n X) :
    Above n (debt l f X) := by
  induction l with
  | nil => exact hX
  | cons a l ih => exact above_add (h a) ih

/-- Owed to the peers' barrier cells, -/
def dBar (c : Dev nD) (o : Fin 7) : CellTallies nD τ sig Unit := tallyAt (bar (pr c o)) () 1
/-- for a partial block, -/
def dA (c j : Dev nD) : CellTallies nD τ sig Unit := if j = c then 0 else tallyAt (rva j (off c j)) () N
/-- and for the sum. -/
def dB (c : Dev nD) (o : Fin 7) : CellTallies nD τ sig Unit := tallyAt (rvb (pr c o) o) () N

theorem above_dA (c j : Dev nD) : Above 1 (dA c j) := by
  unfold dA; split
  · exact above_zero _
  · exact above_tally _ _ _ (by show 1 < 2; omega)
theorem above_dB (c : Dev nD) (o : Fin 7) : Above 2 (dB c o) := above_tally _ _ _ (by show 2 < 3; omega)
theorem above_dBar (c : Dev nD) (o : Fin 7) : Above 0 (dBar c o) := above_tally _ _ _ (by show 0 < 1; omega)

section Steps

variable (P : Dev nD → Dev nD → Blk F) (R : Dev nD → Blk F) (K : Dev nD × Cx → ℕ)

/-- What every device may use throughout: every cell's invariant and that its first round is reached; the levels. -/
def ctx : sProp 𝕄 :=
  iprop((bigSep Finset.univ fun ck : Dev nD × Cx => cellInv ER (sched P R) (K ck) (cell ck.1 ck.2))
    ∗ (bigSep Finset.univ fun ck : Dev nD × Cx => reached ER (cell ck.1 ck.2) 0) ∗ levAts L lv)

instance ctx_persistent : BI.Persistent (ctx P R K) := by unfold ctx; infer_instance

omit [FloatOps F] in
theorem ctx_inv (c : Dev nD) (k : Cx) : ctx P R K ⊢ cellInv ER (sched P R) (K (c, k)) (cell c k) := by
  unfold ctx; iintro ⟨H, -, -⟩
  iapply (pick (fun ck : Dev nD × Cx => cellInv ER (sched P R) (K ck) (cell ck.1 ck.2)) (c, k)); iexact H
omit [FloatOps F] in
theorem ctx_reached (c : Dev nD) (k : Cx) : ctx P R K ⊢ (reached ER (cell c k) 0 : sProp 𝕄) := by
  unfold ctx; iintro ⟨-, H, -⟩
  iapply (pick (fun ck : Dev nD × Cx => (reached ER (cell ck.1 ck.2) 0 : sProp 𝕄)) (c, k)); iexact H
omit [FloatOps F] in
theorem ctx_lev : ctx P R K ⊢ (levAts L lv : sProp 𝕄) := by
  unfold ctx; iintro ⟨-, -, H⟩; iexact H

variable (c : Dev nD) {α : Type} {Q : α → sProp (MT nD τ sig Unit (Elt F) ℕ UU ℕ)}

/-! ## Signals and the barrier -/

/-- What the signal to the device at offset `o` takes. -/
def TSig (c : Dev nD) (o : Fin 7) : sProp 𝕄 := iprop((∃ X, own c (slotM o.rev) X) ∗ dutyTok ER (bar (pr c o)) 0 o.rev)

/-- A signal hands the peer the landing slot it will write. -/
theorem sig_step (o : Fin 7) {n : Dev nD} (hn : n = pr c o) {k' : Int} (hk' : k' = 1) (O : CellTallies nD τ sig Unit)
    {k : PUnit → Prog (TpuEff nD τ sig (Elt F) Λ₀ .tc) α} :
    iprop(ctx P R K ∗ TSig c o ∗ ow c (dBar c o + O))
      ⊢ iprop((ow c O -∗ run c (k ⟨⟩) Q) -∗ run c (.op (.semSignal (n : Thread nD τ) barS k') k) Q) := by
  subst hn hk'
  unfold TSig ow dBar
  iintro ⟨#HC, ⟨HX, Ht⟩, ⟨%W, HO⟩⟩ Hk
  iapply (Rounds.wp_signal 𝒱₀ ER (sched P R) (c : Thread nD τ) none (dst := (pr c o : Thread nD τ)) (κ := K (pr c o, none))
      (d := o.rev) (k' := 1) (by rw [duties_bar]; exact Finset.mem_univ _) (amount_bar P R (pr c o) o.rev) () O (by rw [add_comm]) (W := W))
    $$ [HO Ht HX]
  · isplitr; · iapply (ctx_inv P R K (pr c o) none); iexact HC
    isplitl [HO]; · iexact HO
    isplitl [Ht]; · iexact Ht
    isplitl [HX]
    · rw [payload_bar]; unfold barPay; rw [pr_rev]; iexact HX
    · iapply (ctx_reached P R K (pr c o) none); iexact HC
  iintro HO
  iapply Hk; iexists W; iexact HO

/-- The barrier wait brings the slots this device may write at its seven peers. -/
theorem bar_step (O : CellTallies nD τ sig Unit) (hO : Above 1 O) {k' : Int} (hk' : k' = 7)
    {k : PUnit → Prog (TpuEff nD τ sig (Elt F) Λ₀ .tc) α} :
    iprop(ctx P R K ∗ cred (tallyAt (bar c) () 7) ∗ atPos ER (bar c) 0 ∅ 0 ∗ ow c O)
      ⊢ iprop(((ow c O ∗ atPos ER (bar c) 1 ∅ 0 ∗ bigSep Finset.univ fun o => barPay (F := F) c o) -∗ run c (k ⟨⟩) Q)
          -∗ run c (.op (.semWait barS k') k) Q) := by
  subst hk'
  unfold ow
  iintro ⟨#HC, Hc, Ha, ⟨%W, HO⟩⟩ Hk
  iapply (Rounds.wp_wait_rest_token 𝒱₀ ER (sched P R) (c : Thread nD τ) none (κ := K (c, none))
      (wpE_semWait_eq 𝒱₀ (c : Thread nD τ) none Set.univ) (Set.mem_univ _) () (O := O) (W := W) (R := 0) (m := 0) (T := ∅)
      (by rw [expect_bar])) $$ [Hc HO Ha]
  · isplitr; · iapply (ctx_inv P R K c none); iexact HC
    isplitl [Hc]; · iexact Hc
    isplitl [HO]; · iexact HO
    isplitr
    · iapply (mayWait (F := F) c (.reg barS) (n := 1) (by show lvOf (cix (csem none)) ≤ 1; rw [cix_csem]; decide) hO)
      iapply (ctx_lev P R K); iexact HC
    iexact Ha
  iintro ⟨HO, Ha, -, Hpay⟩
  iapply Hk
  isplitl [HO]; · iexists _; iexact HO
  isplitl [Ha]; · iexact Ha
  iapply (Entails.of_eq (rest_bar P R c)); iexact Hpay

/-! ## Loads and stores of one block or slot -/

omit [FloatOps F] in
theorem owns_elim (d : Dev nD) {sp : Space} {sh : Shape} {e : EltTy} (m : Memref sig .tc sp sh e) (q : PosShare TreeShare) (X : sh.Idx → Elt F e) :
    (owns (d : Thread nD τ) m q X : sProp 𝕄) ⊢ iprop(∃ f, ⌜m.view.read (Elt F) f = X⌝ ∗ (m.view.loc (d : Thread nD τ) ↦[m.view.set]{q} f)) := .rfl
omit [FloatOps F] in
theorem owns_of (d : Dev nD) {sp : Space} {sh : Shape} {e : EltTy} (m : Memref sig .tc sp sh e) (q : PosShare TreeShare) (X : sh.Idx → Elt F e)
    {f : m.view.ty.Contents (Elt F)} (h : m.view.read (Elt F) f = X) :
    (m.view.loc (d : Thread nD τ) ↦[m.view.set]{q} f : sProp 𝕄) ⊢ owns (d : Thread nD τ) m q X := by
  rw [← h]; exact owns_intro _ _ _ _

/-- Loading a slice that is owned reads its contents. -/
theorem load_step {cs : CoreSpace} {s : Shape} {e : EltTy} (m : Memref sig .tc cs s e) (r : Rect s) (hr : ∀ a, r.stride a = 1)
    {q : PosShare TreeShare} {X : r.shape.Idx → Elt F e} {hl : m.view.LoadsAt r.toLoadRect}
    {k : (r.shape.Idx → Elt F e) → Prog (TpuEff nD τ sig (Elt F) Λ₀ .tc) α} :
    (owns (c : Thread nD τ) (m.slice r hr) q X : sProp 𝕄)
      ⊢ iprop((owns (c : Thread nD τ) (m.slice r hr) q X -∗ run c (k X) Q) -∗ run c (.op (.load m r.toLoadRect hl) k) Q) := by
  iintro H Hk
  ihave H := (owns_elim c (m.slice r hr) q X) $$ H
  icases H with ⟨%f, %hf, H⟩
  iapply (wp_load_rect 𝒱₀ (c : Thread nD τ) none Set.univ (m := m) (r := r) (S := (m.slice r hr).view.set) (f := f) (Finset.Subset.refl _)) $$ H
  iintro H
  rw [show (m.access r).read (Elt F) f = X from hf]
  iapply Hk
  iapply (owns_of c (m.slice r hr) q X hf); iexact H

/-- Storing to a slice that is owned replaces its contents. -/
theorem store_step {cs : CoreSpace} {s : Shape} {e : EltTy} (m : Memref sig .tc cs s e) (r : Rect s) (hr : ∀ a, r.stride a = 1)
    {X w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} :
    (owns (c : Thread nD τ) (m.slice r hr) fullShare X : sProp 𝕄)
      ⊢ iprop((owns (c : Thread nD τ) (m.slice r hr) fullShare w -∗ run c (k ⟨⟩) Q) -∗ run c (.op (.store m r w Finset.univ hx hm) k) Q) := by
  iintro H Hk
  ihave H := (owns_elim c (m.slice r hr) fullShare X) $$ H
  icases H with ⟨%f, %hf, H⟩
  iapply (wp_store 𝒱₀ (c : Thread nD τ) none Set.univ (m := m) (r := r) (Mk := Finset.univ) (S := (m.slice r hr).view.set) (f := f) (Finset.Subset.refl _)) $$ H
  iintro H
  iapply Hk
  iapply (owns_of c (m.slice r hr) fullShare w (View.read_write_univ _ _)); iexact H

/-- Storing to a whole owned memref at offset zero. -/
theorem load_out (j : Dev nD) {o : Fin 2 → ℕ} (ho : o = ![1024 * j.val, 0]) {h : ∀ a, o a + S1024x1024.size a ≤ S8192x1024.size a}
    {X : Blk F} {hl : (oM : Memref sig .tc .vmem S8192x1024 .bf16).view.LoadsAt (Rect.unit (s := S8192x1024) o S1024x1024.size h).toLoadRect}
    {k : (S1024x1024.Idx → Elt F .bf16) → Prog (TpuEff nD τ sig (Elt F) Λ₀ .tc) α} :
    (own c (outM j) X : sProp 𝕄)
      ⊢ iprop((own c (outM j) X -∗ run c (k X) Q) -∗ run c (.op (.load oM (Rect.unit (s := S8192x1024) o S1024x1024.size h).toLoadRect hl) k) Q) := by
  subst ho; exact load_step c oM (outR j) (fun _ => rfl)

theorem store_out (j : Dev nD) {o : Fin 2 → ℕ} (ho : o = ![1024 * j.val, 0]) {h : ∀ a, o a + S1024x1024.size a ≤ S8192x1024.size a}
    {X w : Blk F} {hx : ((oM : Memref sig .tc .vmem S8192x1024 .bf16).access (Rect.unit (s := S8192x1024) o S1024x1024.size h)).Stores Finset.univ}
    {hm : (Finset.univ : Finset S1024x1024.Idx) = Finset.univ ∨ ∀ a, (Rect.unit (s := S8192x1024) o S1024x1024.size h).stride a = 1}
    {k : PUnit → Prog (TpuEff nD τ sig (Elt F) Λ₀ .tc) α} :
    (own c (outM j) X : sProp 𝕄)
      ⊢ iprop((own c (outM j) w -∗ run c (k ⟨⟩) Q) -∗ run c (.op (.store oM (Rect.unit (s := S8192x1024) o S1024x1024.size h) w Finset.univ hx hm) k) Q) := by
  subst ho; exact store_step c oM (outR j) (fun _ => rfl)

/-- A block as the one-slot array a load of its slot reads. -/
def up (X : Blk F) : S1x1024x1024.Idx → Elt F .bf16 :=
  fun i => X ((Shape.reshapeEquiv squeezes_S1x1024x1024_S1024x1024.numel_eq).symm i)

omit [FloatOps F] in
theorem read_slot (o : Fin 7) (f : (slotM o).view.ty.Contents (Elt F)) (X : Blk F) :
    (slotM o).view.read (Elt F) f = X ↔ (rM.slice (slotR o) (fun _ => rfl)).view.read (Elt F) f = up X := by
  have h : (slotM o).view.read (Elt F) f = fun i => (rM.slice (slotR o) (fun _ => rfl)).view.read (Elt F) f
      (Shape.reshapeEquiv squeezes_S1x1024x1024_S1024x1024.numel_eq i) := rfl
  rw [h]
  constructor
  · rintro rfl; funext i; simp [up]
  · intro h; rw [h]; funext i; simp [up]

/-- Loading slot `o` reads the block it holds. -/
theorem load_slot (o : Fin 7) {f3 : Fin 3 → ℕ} (h3 : f3 = ![o.val, 0, 0]) {h : ∀ a, f3 a + S1x1024x1024.size a ≤ S7x1024x1024.size a}
    {X : Blk F} {hl : (rM : Memref sig .tc .vmem S7x1024x1024 .bf16).view.LoadsAt (Rect.unit (s := S7x1024x1024) f3 S1x1024x1024.size h).toLoadRect}
    {k : (S1x1024x1024.Idx → Elt F .bf16) → Prog (TpuEff nD τ sig (Elt F) Λ₀ .tc) α} :
    (own c (slotM o) X : sProp 𝕄)
      ⊢ iprop((own c (slotM o) X -∗ run c (k (up X)) Q)
        -∗ run c (.op (.load rM (Rect.unit (s := S7x1024x1024) f3 S1x1024x1024.size h).toLoadRect hl) k) Q) := by
  subst h3
  iintro H Hk
  ihave H := (owns_elim c (slotM o) fullShare X) $$ H
  icases H with ⟨%f, %hf, H⟩
  iapply (load_step c rM (slotR o) (fun _ => rfl) (q := fullShare) (X := up X)) $$ [H]
  · iapply (owns_of c (rM.slice (slotR o) (fun _ => rfl)) fullShare (up X) (f := f) ((read_slot o f X).mp hf))
    iapply (Entails.of_eq (congrArg (fun S => (View.loc (c : Thread nD τ) (slotM o).view ↦[S]{fullShare} f : sProp 𝕄))
      (View.set_reshape (v := (rM.slice (slotR o) (fun _ => rfl)).view) _))); iexact H
  iintro H
  iapply Hk
  ihave H := (owns_elim c (rM.slice (slotR o) (fun _ => rfl)) fullShare (up X)) $$ H
  icases H with ⟨%g, %hg, H⟩
  iapply (owns_of c (slotM o) fullShare X (f := g) ((read_slot o g X).mpr hg))
  iapply (Entails.of_eq (congrArg (fun S => (View.loc (c : Thread nD τ) (slotM o).view ↦[S]{fullShare} g : sProp 𝕄))
      (View.set_reshape (v := (rM.slice (slotR o) (fun _ => rfl)).view) _).symm)); iexact H

/-- Loading all of a buffer. -/
theorem load_red {X : Blk F} {o : Fin 2 → ℕ} (ho : o = ![0, 0]) {h : ∀ a, o a + S1024x1024.size a ≤ S1024x1024.size a} {hl : (aM : Memref sig .tc .vmem S1024x1024 .bf16).view.LoadsAt (Rect.unit (s := S1024x1024) o S1024x1024.size h).toLoadRect}
    {k : (S1024x1024.Idx → Elt F .bf16) → Prog (TpuEff nD τ sig (Elt F) Λ₀ .tc) α} :
    (own c aM X : sProp 𝕄)
      ⊢ iprop((own c aM X -∗ run c (k X) Q) -∗ run c (.op (.load aM (Rect.unit (s := S1024x1024) o S1024x1024.size h).toLoadRect hl) k) Q) := by
  iintro H Hk
  ihave H := (owns_elim c aM fullShare X) $$ H
  icases H with ⟨%f, %hf, H⟩
  iapply (wp_load 𝒱₀ (c : Thread nD τ) none Set.univ (m := aM) (S := aM.view.set) (f := f) (aM.view.setOn_subset_set _)) $$ H
  iintro H
  rw [show aM.view.readAt (Elt F) (Rect.unit (s := S1024x1024) o S1024x1024.size h).toLoadRect f = X from
    (Memref.readAt_unit_zero (Elt F) cc0_scratch1 (ho.trans (by decide)) h f).trans hf]
  iapply Hk
  iapply (owns_of c aM fullShare X hf); iexact H

/-- Storing all of the buffer for the sum. -/
theorem store_red {X w : Blk F} {o : Fin 2 → ℕ} (ho : o = ![0, 0]) {h : ∀ a, o a + S1024x1024.size a ≤ S1024x1024.size a} {hx : ((aM : Memref sig .tc .vmem S1024x1024 .bf16).access (Rect.unit (s := S1024x1024) o S1024x1024.size h)).Stores Finset.univ}
    {hm : (Finset.univ : Finset S1024x1024.Idx) = Finset.univ ∨ ∀ a, (Rect.unit (s := S1024x1024) o S1024x1024.size h).stride a = 1}
    {k : PUnit → Prog (TpuEff nD τ sig (Elt F) Λ₀ .tc) α} :
    (own c aM X : sProp 𝕄)
      ⊢ iprop((own c aM w -∗ run c (k ⟨⟩) Q) -∗ run c (.op (.store aM (Rect.unit (s := S1024x1024) o S1024x1024.size h) w Finset.univ hx hm) k) Q) := by
  iintro H Hk
  ihave H := (owns_elim c aM fullShare X) $$ H
  icases H with ⟨%f, %hf, H⟩
  iapply (wp_store 𝒱₀ (c : Thread nD τ) none Set.univ (m := aM) (r := Rect.unit (s := S1024x1024) o S1024x1024.size h) (Mk := Finset.univ) (S := aM.view.set) (f := f)
    ((View.setOn_subset_set _ _).trans (View.set_slice_subset _ _))) $$ H
  iintro H
  iapply Hk
  rw [show (aM.access (Rect.unit (s := S1024x1024) o S1024x1024.size h)).write (Elt F) f w Finset.univ = w from
    Memref.write_access_unit_zero_univ (Elt F) cc0_scratch1 (ho.trans (by decide)) h f w]
  iapply (owns_of c aM fullShare w (f := w) rfl); iexact H

/-! ## Transfers and their waits -/

/-- Device `c` sends its partial block for device `j`, at offset `o`, into `j`'s slot `o`; the rows it read go to `j`
    with it, for `j` to write its sum there. -/
theorem sendA_step (o : Fin 7) {j n : Dev nD} (hj : j = pr c o) (hn : n = j) {src dst : Memref sig .tc .vmem S1024x1024 .bf16} (hs : src = outM j) (hd : dst = slotM o)
    {sS sR : DmaSem sig} (hsS : sS = semOf (semA 0) o) (hsR : sR = semOf (semA 1) o) (O : CellTallies nD τ sig Unit)
    {hsc : (dst : Memref sig (n : Thread nD τ).2.kind .vmem S1024x1024 .bf16).view.ref.isScScratch = false} {hsrc : src.view.WordExact}
    {hdst : (dst : Memref sig (n : Thread nD τ).2.kind .vmem S1024x1024 .bf16).view.WordExact}
    {hsem : DmaTarget.Typed .vmem (.dma sR) (.remote (n : Thread nD τ) dst (.dma sS) hsc)}
    {k : PUnit → Prog (TpuEff nD τ sig (Elt F) Λ₀ .tc) α} :
    iprop(ctx P R K ∗ own c (outM j) (P c j) ∗ (∃ X, own j (slotM o) X) ∗ dutyTok ER (snd c o) 0 0 ∗ dutyTok ER (rva j o) 0 0
        ∗ ow c (tallyAt (rva j o) () N + O))
      ⊢ iprop(((cred (tallyAt (snd c o) () N) ∗ ow c O) -∗ run c (k ⟨⟩) Q)
          -∗ run c (.op (.enqueueDma src (.remote (n : Thread nD τ) dst (.dma sS) hsc) (.dma sR) hsrc hdst hsem) k) Q) := by
  subst hj hn hs hd hsS hsR
  unfold ow
  iintro ⟨#HC, Hs, ⟨%X, Hd⟩, Ht₁, Ht₂, ⟨%W, HO⟩⟩ Hk
  ihave Hs := (owns_elim c (outM (pr c o)) fullShare _) $$ Hs
  icases Hs with ⟨%fs, %hfs, Hs⟩
  ihave Hd := (owns_elim (pr c o) (slotM o) fullShare _) $$ Hd
  icases Hd with ⟨%fd, %hfd, Hd⟩
  iapply (Rounds.wp_send_landing_pointsTo 𝒱₀ ER (sched P R) (c : Thread nD τ) none (κ₁ := K (c, some (0, o))) (κ₂ := K (pr c o, some (1, o)))
    (c' := (pr c o : Thread nD τ)) (src := outM (pr c o)) (dst := slotM o) (r₁ := 0) (r₂ := 0) (d₁ := 0) (d₂ := 0) (fs := fs) (fd := fd) (q := fullShare)
    (by rw [duties_dma]; exact Finset.mem_singleton_self _) (by rw [duties_dma]; exact Finset.mem_singleton_self _)
    () () N rfl (amount_dma P R c 0 o 0 0) (amount_dma P R (pr c o) 1 o 0 0) O (by rw [add_comm]) (W := W)
    (by rw [payload_snd0])
    (by
      rw [payload_rva]; unfold rvaPay; rw [pr_rev]
      iintro ⟨H₁, H₂⟩
      isplitl [H₁]
      · iapply (owns_of (pr c o) (slotM o) fullShare (P c (pr c o)) ((View.read_write_univ _ _).trans hfs)); iexact H₁
      · iapply (owns_of c (outM (pr c o)) fullShare (P c (pr c o)) hfs); iexact H₂)) $$ [Hs Hd Ht₁ Ht₂ HO]
  · isplitr; · iapply (ctx_inv P R K c (some (0, o))); iexact HC
    isplitr; · iapply (ctx_inv P R K (pr c o) (some (1, o))); iexact HC
    isplitl [Hs]; · iexact Hs
    isplitl [Hd]; · iexact Hd
    isplitl [HO]; · iexact HO
    isplitl [Ht₁]; · iexact Ht₁
    isplitr; · iapply (ctx_reached P R K c (some (0, o))); iexact HC
    isplitl [Ht₂]; · iexact Ht₂
    iapply (ctx_reached P R K (pr c o) (some (1, o))); iexact HC
  iintro ⟨Hc, HO⟩
  iapply Hk
  isplitl [Hc]; · iexact Hc
  iexists W; iexact HO

/-- What sending the sum to the device at offset `o` takes. -/
def TB (c : Dev nD) (o : Fin 7) : sProp 𝕄 :=
  iprop((∃ X, own (pr c o) (outM c) X) ∗ owns (c : Thread nD τ) aM (Transfers.shareTok fullShare 7 o) (R c)
    ∗ dutyTok ER (snd c o) 1 0 ∗ reached ER (snd c o) 1 ∗ dutyTok ER (rvb (pr c o) o) 0 0)

/-- Device `c` sends its sum to the device at offset `o`, into the rows it was handed there. -/
theorem sendB_step (o : Fin 7) {n : Dev nD} (hn : n = pr c o) {dst : Memref sig .tc .vmem S1024x1024 .bf16} (hd : dst = outM c)
    {sS sR : DmaSem sig} (hsS : sS = semOf (semA 0) o) (hsR : sR = semOf (semA 2) o) (O : CellTallies nD τ sig Unit)
    {hsc : (dst : Memref sig (n : Thread nD τ).2.kind .vmem S1024x1024 .bf16).view.ref.isScScratch = false} {hsrc : (aM : Memref sig .tc .vmem S1024x1024 .bf16).view.WordExact}
    {hdst : (dst : Memref sig (n : Thread nD τ).2.kind .vmem S1024x1024 .bf16).view.WordExact}
    {hsem : DmaTarget.Typed .vmem (.dma sR) (.remote (n : Thread nD τ) dst (.dma sS) hsc)}
    {k : PUnit → Prog (TpuEff nD τ sig (Elt F) Λ₀ .tc) α} :
    iprop(ctx P R K ∗ TB R c o ∗ ow c (dB c o + O))
      ⊢ iprop(((cred (tallyAt (snd c o) () N) ∗ ow c O) -∗ run c (k ⟨⟩) Q)
          -∗ run c (.op (.enqueueDma aM (.remote (n : Thread nD τ) dst (.dma sS) hsc) (.dma sR) hsrc hdst hsem) k) Q) := by
  subst hn hd hsS hsR
  unfold TB ow dB
  iintro ⟨#HC, ⟨⟨%X, Hd⟩, Hs, Ht₁, #Hr, Ht₂⟩, ⟨%W, HO⟩⟩ Hk
  ihave Hs := (owns_elim c aM (Transfers.shareTok fullShare 7 o) _) $$ Hs
  icases Hs with ⟨%fs, %hfs, Hs⟩
  ihave Hd := (owns_elim (pr c o) (outM c) fullShare _) $$ Hd
  icases Hd with ⟨%fd, %hfd, Hd⟩
  iapply (Rounds.wp_send_pointsTo 𝒱₀ ER (sched P R) (c : Thread nD τ) none (κ₁ := K (c, some (0, o))) (κ₂ := K (pr c o, some (2, o)))
    (c' := (pr c o : Thread nD τ)) (src := aM) (dst := outM c) (r₁ := 1) (r₂ := 0) (d₁ := 0) (d₂ := 0) (fs := fs) (fd := fd) (q := Transfers.shareTok fullShare 7 o)
    (by rw [duties_snd1]; exact Finset.mem_singleton_self _) (by rw [duties_dma]; exact Finset.mem_singleton_self _)
    () () N rfl (amount_dma P R c 0 o 1 0) (amount_dma P R (pr c o) 2 o 0 0) O (by rw [add_comm]) (W := W)
    (by
      rw [payload_snd1]; unfold sndPay
      exact owns_of c aM (Transfers.shareTok fullShare 7 o) (R c) hfs)
    (by
      rw [payload_rvb]; unfold rvbPay; rw [pr_rev]
      exact owns_of (pr c o) (outM c) fullShare (R c) ((View.read_write_univ _ _).trans hfs))) $$ [Hs Hd Ht₁ Ht₂ HO]
  · isplitr; · iapply (ctx_inv P R K c (some (0, o))); iexact HC
    isplitr; · iapply (ctx_inv P R K (pr c o) (some (2, o))); iexact HC
    isplitl [Hs]; · iexact Hs
    isplitl [Hd]; · iexact Hd
    isplitl [HO]; · iexact HO
    isplitl [Ht₁]; · iexact Ht₁
    isplitr; · iexact Hr
    isplitl [Ht₂]; · iexact Ht₂
    iapply (ctx_reached P R K (pr c o) (some (2, o))); iexact HC
  iintro ⟨Hc, HO⟩
  iapply Hk
  isplitl [Hc]; · iexact Hc
  iexists W; iexact HO

/-- A wait for one block on one of the kernel's own semaphores, at the round `r` it is in. -/
theorem dma_wait (a : Fin 3) (o : Fin 7) (r : ℕ) (hr : (sched P R).expect (cell c (some (a, o))) r = N) {n : ℕ} (hn : lvOf (some (some (a, o))) ≤ n)
    (O : CellTallies nD τ sig Unit) (hO : Above n O) {src dst : Memref sig .tc .vmem S1024x1024 .bf16} (hN : dst.view.dmaCredit = N)
    {s : DmaSem sig} (hs : s = semOf (semA a) o) {hsrc : src.view.WordExact} {hdst : dst.view.WordExact}
    {k : PUnit → Prog (TpuEff nD τ sig (Elt F) Λ₀ .tc) α} :
    iprop(ctx P R K ∗ cred (tallyAt (cell c (some (a, o))) () N) ∗ atPos ER (cell c (some (a, o))) r ∅ 0 ∗ ow c O)
      ⊢ iprop(((ow c O ∗ atPos ER (cell c (some (a, o))) (r + 1) ∅ 0 ∗ reached ER (cell c (some (a, o))) (r + 1)
            ∗ bigSep ((sched P R).duties (cell c (some (a, o))) r \ ∅) (fun u => (sched P R).payload (cell c (some (a, o))) r u)) -∗ run c (k ⟨⟩) Q)
          -∗ run c (.op (.waitDma2 s src dst hsrc hdst) k) Q) := by
  subst hs
  unfold ow
  iintro ⟨#HC, Hc, Ha, ⟨%W, HO⟩⟩ Hk
  iapply (Rounds.wp_wait_rest_token 𝒱₀ ER (sched P R) (c : Thread nD τ) none (κ := K (c, some (a, o)))
      (wpE_waitDma2_eq 𝒱₀ (c : Thread nD τ) none Set.univ) (Set.mem_univ _) () (O := O) (W := W) (R := r) (m := 0) (T := ∅)
      (by rw [zero_add, hN]; exact hr.symm)) $$ [Hc HO Ha]
  · isplitr; · iapply (ctx_inv P R K c (some (a, o))); iexact HC
    isplitl [Hc]; · rw [hN]; iexact Hc
    isplitl [HO]; · iexact HO
    isplitr
    · iapply (mayWait (F := F) c (csem (some (a, o))) (n := n) (by rw [cix_csem]; exact hn) hO)
      iapply (ctx_lev P R K); iexact HC
    iexact Ha
  iintro ⟨HO, Ha, Hr, Hpay⟩
  iapply Hk
  isplitl [HO]; · iexists _; iexact HO
  isplitl [Ha]; · iexact Ha
  isplitl [Hr]; · iexact Hr
  iexact Hpay

/-- Waiting for the partial block of offset `o`, and after. -/
def WR (c : Dev nD) (o : Fin 7) : sProp 𝕄 := iprop(cred (tallyAt (rva c o) () N) ∗ atPos ER (rva c o) 0 ∅ 0)
def DR (c : Dev nD) (o : Fin 7) : sProp 𝕄 := iprop(rvaPay P c o ∗ atPos ER (rva c o) 1 ∅ 0)
/-- Waiting for the first send of offset `o`, and after. -/
def WS (c : Dev nD) (o : Fin 7) : sProp 𝕄 := iprop(cred (tallyAt (snd c o) () N) ∗ atPos ER (snd c o) 0 ∅ 0)
def DS (c : Dev nD) (o : Fin 7) : sProp 𝕄 := iprop(atPos ER (snd c o) 1 ∅ 0 ∗ reached ER (snd c o) 1)
/-- Waiting for the second send of offset `o`, and after. -/
def WT (c : Dev nD) (o : Fin 7) : sProp 𝕄 := iprop(cred (tallyAt (snd c o) () N) ∗ atPos ER (snd c o) 1 ∅ 0)
def DT (c : Dev nD) (o : Fin 7) : sProp 𝕄 := iprop(sndPay R c o ∗ atPos ER (snd c o) 2 ∅ 0)
/-- Waiting for the sum of the device at offset `o` back, and after. -/
def WB (c : Dev nD) (o : Fin 7) : sProp 𝕄 := iprop(cred (tallyAt (rvb c o) () N) ∗ atPos ER (rvb c o) 0 ∅ 0)
def DB (c : Dev nD) (o : Fin 7) : sProp 𝕄 := iprop(rvbPay R c o ∗ atPos ER (rvb c o) 1 ∅ 0)

theorem rva_step (o : Fin 7) (O : CellTallies nD τ sig Unit) (hO : Above 2 O) {src dst : Memref sig .tc .vmem S1024x1024 .bf16} (hN : dst.view.dmaCredit = N)
    {s : DmaSem sig} (hs : s = semOf (semA 1) o) {hsrc : src.view.WordExact} {hdst : dst.view.WordExact}
    {k : PUnit → Prog (TpuEff nD τ sig (Elt F) Λ₀ .tc) α} :
    iprop(ctx P R K ∗ WR (F := F) c o ∗ ow c O)
      ⊢ iprop(((DR P c o ∗ ow c O) -∗ run c (k ⟨⟩) Q) -∗ run c (.op (.waitDma2 s src dst hsrc hdst) k) Q) := by
  unfold WR DR
  iintro ⟨#HC, ⟨Hc, Ha⟩, HO⟩ Hk
  iapply (dma_wait P R K c 1 o 0 (expect_dma P R c 1 o) (n := 2) (by show 2 ≤ 2; omega) O hO hN hs) $$ [Hc Ha HO]
  · isplitr; · iexact HC
    isplitl [Hc]; · iexact Hc
    isplitl [Ha]; · iexact Ha
    iexact HO
  iintro ⟨HO, Ha, -, Hp⟩
  iapply Hk
  isplitr [HO]
  · isplitl [Hp]
    · iapply (Entails.of_eq (rest_rva P R c o)); iexact Hp
    · iexact Ha
  iexact HO

theorem snd0_step (o : Fin 7) (O : CellTallies nD τ sig Unit) (hO : Above 0 O) {src dst : Memref sig .tc .vmem S1024x1024 .bf16} (hN : dst.view.dmaCredit = N)
    {s : DmaSem sig} (hs : s = semOf (semA 0) o) {hsrc : src.view.WordExact} {hdst : dst.view.WordExact}
    {k : PUnit → Prog (TpuEff nD τ sig (Elt F) Λ₀ .tc) α} :
    iprop(ctx P R K ∗ WS (F := F) c o ∗ ow c O)
      ⊢ iprop(((DS (F := F) c o ∗ ow c O) -∗ run c (k ⟨⟩) Q) -∗ run c (.op (.waitDma2 s src dst hsrc hdst) k) Q) := by
  unfold WS DS
  iintro ⟨#HC, ⟨Hc, Ha⟩, HO⟩ Hk
  iapply (dma_wait P R K c 0 o 0 (expect_dma P R c 0 o) (n := 0) (by show 0 ≤ 0; omega) O hO hN hs) $$ [Hc Ha HO]
  · isplitr; · iexact HC
    isplitl [Hc]; · iexact Hc
    isplitl [Ha]; · iexact Ha
    iexact HO
  iintro ⟨HO, Ha, Hr, -⟩
  iapply Hk
  isplitr [HO]
  · isplitl [Ha]
    · iexact Ha
    · iexact Hr
  iexact HO

theorem snd1_step (o : Fin 7) (O : CellTallies nD τ sig Unit) (hO : Above 0 O) {src dst : Memref sig .tc .vmem S1024x1024 .bf16} (hN : dst.view.dmaCredit = N)
    {s : DmaSem sig} (hs : s = semOf (semA 0) o) {hsrc : src.view.WordExact} {hdst : dst.view.WordExact}
    {k : PUnit → Prog (TpuEff nD τ sig (Elt F) Λ₀ .tc) α} :
    iprop(ctx P R K ∗ WT (F := F) c o ∗ ow c O)
      ⊢ iprop(((DT R c o ∗ ow c O) -∗ run c (k ⟨⟩) Q) -∗ run c (.op (.waitDma2 s src dst hsrc hdst) k) Q) := by
  unfold WT DT
  iintro ⟨#HC, ⟨Hc, Ha⟩, HO⟩ Hk
  iapply (dma_wait P R K c 0 o 1 (expect_snd1 P R c o) (n := 0) (by show 0 ≤ 0; omega) O hO hN hs) $$ [Hc Ha HO]
  · isplitr; · iexact HC
    isplitl [Hc]; · iexact Hc
    isplitl [Ha]; · iexact Ha
    iexact HO
  iintro ⟨HO, Ha, -, Hp⟩
  iapply Hk
  isplitr [HO]
  · isplitl [Hp]
    · iapply (Entails.of_eq (rest_snd1 P R c o)); iexact Hp
    · iexact Ha
  iexact HO

theorem rvb_step (o : Fin 7) (O : CellTallies nD τ sig Unit) (hO : Above 3 O) {src dst : Memref sig .tc .vmem S1024x1024 .bf16} (hN : dst.view.dmaCredit = N)
    {s : DmaSem sig} (hs : s = semOf (semA 2) o) {hsrc : src.view.WordExact} {hdst : dst.view.WordExact}
    {k : PUnit → Prog (TpuEff nD τ sig (Elt F) Λ₀ .tc) α} :
    iprop(ctx P R K ∗ WB (F := F) c o ∗ ow c O)
      ⊢ iprop(((DB R c o ∗ ow c O) -∗ run c (k ⟨⟩) Q) -∗ run c (.op (.waitDma2 s src dst hsrc hdst) k) Q) := by
  unfold WB DB
  iintro ⟨#HC, ⟨Hc, Ha⟩, HO⟩ Hk
  iapply (dma_wait P R K c 2 o 0 (expect_dma P R c 2 o) (n := 3) (by show 3 ≤ 3; omega) O hO hN hs) $$ [Hc Ha HO]
  · isplitr; · iexact HC
    isplitl [Hc]; · iexact Hc
    isplitl [Ha]; · iexact Ha
    iexact HO
  iintro ⟨HO, Ha, -, Hp⟩
  iapply Hk
  isplitr [HO]
  · isplitl [Hp]
    · iapply (Entails.of_eq (rest_rvb P R c o)); iexact Hp
    · iexact Ha
  iexact HO

/-- A cell whose rounds are over reads zero. -/
theorem close_step (k : Cx) (r : ℕ) (hr : (∀ o, k ≠ some (0, o)) ∧ 1 ≤ r ∨ 2 ≤ r) :
    iprop(ctx P R K ∗ atPos ER (cell c k) r ∅ 0) ⊢ (iprop(|={Set.univ}=> semVal (cell c k) 0) : sProp 𝕄) := by
  iintro ⟨#HC, Ha⟩
  iapply (cell_close ER (sched P R) (Set.mem_univ (K (c, k))) (fun h => h) (R := r)
    (fun n hn => duties_later P R c k n (hr.imp (fun h => ⟨h.1, h.2.trans hn⟩) (fun h => h.trans hn))))
  isplitr; · iapply (ctx_inv P R K c k); iexact HC
  iexact Ha

end Steps

/-! ## Memrefs and semaphores at equal offsets -/

theorem slot_eq (o : Fin 7) {f : Fin 3 → ℕ} (h : f = ![o.val, 0, 0]) {hb : ∀ a, f a + S1x1024x1024.size a ≤ S7x1024x1024.size a} :
    (rM.slice (Rect.unit (s := S7x1024x1024) f S1x1024x1024.size hb) (fun _ => rfl)).squeeze S1024x1024 squeezes_S1x1024x1024_S1024x1024 = slotM o := by
  subst h; rfl
theorem out_eq (j : Dev nD) {f : Fin 2 → ℕ} (h : f = ![1024 * j.val, 0]) {hb : ∀ a, f a + S1024x1024.size a ≤ S8192x1024.size a} :
    oM.slice (Rect.unit (s := S8192x1024) f S1024x1024.size hb) (fun _ => rfl) = outM j := by
  subst h; rfl
theorem sem_eq (A : DmaSems sig S7) (o : Fin 7) {f : Fin 1 → ℕ} (h : f = ![o.val]) {hb : ∀ a, f a + S1.size a ≤ S7.size a} :
    ((A.slice (Rect.unit (s := S7) f S1.size hb)).squeeze S_ squeezes_S1_S_).sem = semOf A o := by
  subst h; rfl

/-- The steps taken only when a condition holds. -/
theorem guarded (c : Dev nD) {α : Type} {Q : α → sProp (MT nD τ sig Unit (Elt F) ℕ UU ℕ)} {p p' : Prop} [Decidable p] [Decidable p'] (hp : p ↔ ¬ p')
    {t : p → Prog (TpuEff nD τ sig (Elt F) Λ₀ .tc) α} {e : ¬ p → Prog (TpuEff nD τ sig (Elt F) Λ₀ .tc) α} {H : sProp 𝕄}
    (ht : ∀ h : p, H ⊢ run c (t h) Q) (he : ∀ h : ¬ p, p' → (H ⊢ run c (e h) Q)) : H ⊢ run c (if h : p then t h else e h) Q := by
  by_cases h : p
  · rw [dif_pos h]; exact ht h
  · rw [dif_neg h]; exact he h (not_not.mp fun h' => h (hp.mpr h'))

end Cert.Mesh

end
-- ==== Proof.Body.lean ====
/-
  The kernel's body on one device, over any float values: what its blocks hold, and the run of its parts in order.
-/
module

public import proofs.«01_k».proof.Proof.Steps

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the blocks hold -/

/-- A device's three inputs: its channels of the activations and taps, its rows of the weights. -/
structure Ins (F : FTy → Type) where
  x : S2x4096x1024.Idx → Elt F .bf16
  k : S4x1024.Idx → Elt F .f32
  w : S1024x1024.Idx → Elt F .bf16

namespace Ins
variable (I : Ins F)

/-- The rows of the activations the first chunk of batch entry `b` uses: none precede it. -/
abbrev xHead (b : Fin 2) : Vec F S1x1024x1024 .bf16 := match b with
  | 0 => xM.view.readAt (Elt F) (Rect.unit (s := S2x4096x1024) ![0, 0, 0] S1x1024x1024.size inb_S2x4096x1024_S1x1024x1024_0_0_0).toLoadRect I.x
  | 1 => xM.view.readAt (Elt F) (Rect.unit (s := S2x4096x1024) ![1, 0, 0] S1x1024x1024.size inb_S2x4096x1024_S1x1024x1024_1_0_0).toLoadRect I.x
/-- The rows a later chunk uses: its own and the three before. -/
abbrev xTail (b : Fin 2) (h : Fin 3) : Vec F S1x1027x1024 .bf16 := match b, h with
  | 0, 0 => xM.view.readAt (Elt F) (Rect.unit (s := S2x4096x1024) ![0, 1021, 0] S1x1027x1024.size inb_S2x4096x1024_S1x1027x1024_0_1021_0).toLoadRect I.x
  | 0, 1 => xM.view.readAt (Elt F) (Rect.unit (s := S2x4096x1024) ![0, 2045, 0] S1x1027x1024.size inb_S2x4096x1024_S1x1027x1024_0_2045_0).toLoadRect I.x
  | 0, 2 => xM.view.readAt (Elt F) (Rect.unit (s := S2x4096x1024) ![0, 3069, 0] S1x1027x1024.size inb_S2x4096x1024_S1x1027x1024_0_3069_0).toLoadRect I.x
  | 1, 0 => xM.view.readAt (Elt F) (Rect.unit (s := S2x4096x1024) ![1, 1021, 0] S1x1027x1024.size inb_S2x4096x1024_S1x1027x1024_1_1021_0).toLoadRect I.x
  | 1, 1 => xM.view.readAt (Elt F) (Rect.unit (s := S2x4096x1024) ![1, 2045, 0] S1x1027x1024.size inb_S2x4096x1024_S1x1027x1024_1_2045_0).toLoadRect I.x
  | 1, 2 => xM.view.readAt (Elt F) (Rect.unit (s := S2x4096x1024) ![1, 3069, 0] S1x1027x1024.size inb_S2x4096x1024_S1x1027x1024_1_3069_0).toLoadRect I.x
/-- Tap `t`. -/
abbrev tap (t : Fin 4) : Vec F S1x1024 .f32 := match t with
  | 0 => kM.view.readAt (Elt F) (Rect.unit (s := S4x1024) ![0, 0] S1x1024.size inb_S4x1024_S1x1024_0_0).toLoadRect I.k
  | 1 => kM.view.readAt (Elt F) (Rect.unit (s := S4x1024) ![1, 0] S1x1024.size inb_S4x1024_S1x1024_1_0).toLoadRect I.k
  | 2 => kM.view.readAt (Elt F) (Rect.unit (s := S4x1024) ![2, 0] S1x1024.size inb_S4x1024_S1x1024_2_0).toLoadRect I.k
  | 3 => kM.view.readAt (Elt F) (Rect.unit (s := S4x1024) ![3, 0] S1x1024.size inb_S4x1024_S1x1024_3_0).toLoadRect I.k
/-- The weights. -/
abbrev wt : FVec F S1024x1024 .bf16 :=
  k0_pay1 (wM.view.readAt (Elt F) (Rect.unit (s := S1024x1024) ![0, 0] S1024x1024.size inb_S1024x1024_S1024x1024_0_0).toLoadRect I.w)

/-- The partial block for chunk `j`. -/
def part (j : Dev nD) : Blk F := match j with
  | 0 => k0_pay5 I.wt (k0_pay3 (I.xHead 0) (I.tap 3) (I.tap 0) (I.tap 1)) (k0_pay4 (I.xHead 0)) (I.tap 2)
  | 1 => k0_pay10 I.wt (k0_pay7 (I.xTail 0 0) (I.tap 3) (I.tap 0) (I.tap 1)) (k0_pay8 (I.xTail 0 0)) (k0_pay9 (I.tap 2))
  | 2 => k0_pay15 I.wt (k0_pay12 (I.xTail 0 1) (I.tap 3) (I.tap 0) (I.tap 1)) (k0_pay13 (I.xTail 0 1)) (k0_pay14 (I.tap 2))
  | 3 => k0_pay19 I.wt (k0_pay17 (I.xTail 0 2) (I.tap 3) (I.tap 0) (I.tap 1)) (k0_pay18 (I.xTail 0 2) (I.tap 2))
  | 4 => k0_pay24 I.wt (k0_pay21 (I.xHead 1) (I.tap 3) (I.tap 0) (I.tap 1)) (k0_pay22 (I.xHead 1)) (k0_pay23 (I.tap 2))
  | 5 => k0_pay29 I.wt (k0_pay26 (I.xTail 1 0) (I.tap 3) (I.tap 0) (I.tap 1)) (k0_pay27 (I.xTail 1 0)) (k0_pay28 (I.tap 2))
  | 6 => k0_pay33 I.wt (k0_pay31 (I.xTail 1 1) (I.tap 3) (I.tap 0) (I.tap 1)) (k0_pay32 (I.xTail 1 1) (I.tap 2))
  | 7 => k0_pay35 I.wt (k0_pay34 (I.xTail 1 2) (I.tap 3) (I.tap 0) (I.tap 1) (I.tap 2))

end Ins

section Body

variable (In : Dev nD → Ins F)

/-- Device `c`'s partial block for the rows of device `j`. -/
def P (c j : Dev nD) : Blk F := (In c).part j
/-- The block device `c` receives at offset `o`. -/
abbrev got (c : Dev nD) (o : Fin 7) : S1x1024x1024.Idx → Elt F .bf16 := up (P In (pr c o.rev) c)
/-- Running sums of device `c`'s block. -/
abbrev acc0 (c : Dev nD) : FVec F S1024x1024 .f32 := k0_pay36 (P In c c) (got In c 0)
abbrev acc3 (c : Dev nD) : FVec F S1024x1024 .f32 := k0_pay37 (acc0 In c) (got In c 1) (got In c 2) (got In c 3)
/-- Device `c`'s sum. -/
def R (c : Dev nD) : Blk F := k0_pay38 (acc3 In c) (got In c 4) (got In c 5) (got In c 6)

variable (K : Dev nD × Cx → ℕ) (c : Dev nD)

abbrev cx : sProp 𝕄 := ctx (P In) (R In) K

/-- The input buffers. -/
def ins : sProp 𝕄 :=
  iprop((xM.view.loc (c : Thread nD τ) ↦[xM.view.set]{fullShare} (In c).x)
    ∗ (kM.view.loc (c : Thread nD τ) ↦[kM.view.set]{fullShare} (In c).k)
    ∗ (wM.view.loc (c : Thread nD τ) ↦[wM.view.set]{fullShare} (In c).w))

variable {α : Type} {Q : α → sProp (MT nD τ sig Unit (Elt F) ℕ UU ℕ)}

/-- A fragment that returns at once. -/
theorem ret_step {v : α} : Q v ⊢ run c (.ret v) Q := by
  rw [show run c (.ret v) Q = _ from wp_ret ..]
  iintro H; imodintro; iexact H

/-- A load of an input buffer. -/
theorem load_in {cs : CoreSpace} {s : Shape} {e : EltTy} (m : Memref sig .tc cs s e) (r : LoadRect s) (f : m.view.ty.Contents (Elt F)) {hl : m.view.LoadsAt r}
    {k : (r.shape.Idx → Elt F e) → Prog (TpuEff nD τ sig (Elt F) Λ₀ .tc) α} :
    (m.view.loc (c : Thread nD τ) ↦[m.view.set]{fullShare} f : sProp 𝕄)
      ⊢ iprop(((m.view.loc (c : Thread nD τ) ↦[m.view.set]{fullShare} f) -∗ run c (k (m.view.readAt (Elt F) r f)) Q) -∗ run c (.op (.load m r hl) k) Q) :=
  wp_load 𝒱₀ (c : Thread nD τ) none Set.univ (m := m) (S := m.view.set) (f := f) (m.view.setOn_subset_set _)

/-- The loads that start a chunk: the activations, then the four taps. -/
theorem load5 (r : LoadRect S2x4096x1024) {r3 r0 r1 r2 : LoadRect S4x1024} {hl : (xM : Memref sig .tc .vmem S2x4096x1024 .bf16).view.LoadsAt r}
    {h3 : (kM : Memref sig .tc .vmem S4x1024 .f32).view.LoadsAt r3} {h0 : (kM : Memref sig .tc .vmem S4x1024 .f32).view.LoadsAt r0}
    {h1 : (kM : Memref sig .tc .vmem S4x1024 .f32).view.LoadsAt r1} {h2 : (kM : Memref sig .tc .vmem S4x1024 .f32).view.LoadsAt r2}
    {k : (r.shape.Idx → Elt F .bf16) → (r3.shape.Idx → Elt F .f32) → (r0.shape.Idx → Elt F .f32) → (r1.shape.Idx → Elt F .f32) → (r2.shape.Idx → Elt F .f32)
      → Prog (TpuEff nD τ sig (Elt F) Λ₀ .tc) α} :
    ins In c ⊢ iprop((ins In c -∗ run c (k (xM.view.readAt (Elt F) r (In c).x) (kM.view.readAt (Elt F) r3 (In c).k) (kM.view.readAt (Elt F) r0 (In c).k)
          (kM.view.readAt (Elt F) r1 (In c).k) (kM.view.readAt (Elt F) r2 (In c).k)) Q)
        -∗ run c (.op (.load xM r hl) fun a => .op (.load kM r3 h3) fun b => .op (.load kM r0 h0) fun d => .op (.load kM r1 h1) fun e => .op (.load kM r2 h2) fun g => k a b d e g) Q) := by
  unfold ins
  iintro ⟨Hx, Hk, Hw⟩ Hk'
  iapply (load_in c xM r (In c).x) $$ Hx
  iintro Hx
  iapply (load_in c kM r3 (In c).k) $$ Hk
  iintro Hk
  iapply (load_in c kM r0 (In c).k) $$ Hk
  iintro Hk
  iapply (load_in c kM r1 (In c).k) $$ Hk
  iintro Hk
  iapply (load_in c kM r2 (In c).k) $$ Hk
  iintro Hk
  iapply Hk'
  isplitl [Hx]; · iexact Hx
  isplitl [Hk]; · iexact Hk
  iexact Hw

/-- A chunk not yet computed: its rows of the output, and — of another device — that device's slot and the rights to signal. -/
def TA (j : Dev nD) : sProp 𝕄 :=
  iprop((∃ X, own (F := F) c (outM j) X)
    ∗ if j = c then iprop(emp) else iprop((∃ X, own (F := F) j (slotM (off c j)) X) ∗ dutyTok ER (snd c (off c j)) 0 0 ∗ dutyTok ER (rva j (off c j)) 0 0))
/-- A chunk computed and, of another device, sent. -/
def DA (j : Dev nD) : sProp 𝕄 :=
  if j = c then iprop(own c (outM c) (P In c c)) else iprop(cred (tallyAt (snd c (off c j)) () N))

/-- One chunk: its rows are stored and, of another device, sent. -/
theorem chunk_step (j : Dev nD) (O : CellTallies nD τ sig Unit) {w : Blk F} (hw : w = P In c j)
    {o₁ o₂ : Fin 2 → ℕ} (ho₁ : o₁ = ![1024 * j.val, 0]) (ho₂ : o₂ = ![1024 * j.val, 0])
    {h₁ : ∀ a, o₁ a + S1024x1024.size a ≤ S8192x1024.size a} {h₂ : ∀ a, o₂ a + S1024x1024.size a ≤ S8192x1024.size a}
    {hl : (oM : Memref sig .tc .vmem S8192x1024 .bf16).view.LoadsAt (Rect.unit (s := S8192x1024) o₁ S1024x1024.size h₁).toLoadRect}
    {hx : ((oM : Memref sig .tc .vmem S8192x1024 .bf16).access (Rect.unit (s := S8192x1024) o₂ S1024x1024.size h₂)).Stores Finset.univ}
    {hm : (Finset.univ : Finset S1024x1024.Idx) = Finset.univ ∨ ∀ a, (Rect.unit (s := S8192x1024) o₂ S1024x1024.size h₂).stride a = 1}
    {p : Prop} [Decidable p] (hp : p ↔ ¬ j = c) {t : p → Prog (TpuEff nD τ sig (Elt F) Λ₀ .tc) α} {e : Prog (TpuEff nD τ sig (Elt F) Λ₀ .tc) α}
    (ht : ∀ (_ : j ≠ c) (h : p), iprop(cx In K ∗ own c (outM j) (P In c j) ∗ (∃ X, own j (slotM (off c j)) X) ∗ dutyTok ER (snd c (off c j)) 0 0
          ∗ dutyTok ER (rva j (off c j)) 0 0 ∗ ow c (tallyAt (rva j (off c j)) () N + O))
        ⊢ iprop(((cred (tallyAt (snd c (off c j)) () N) ∗ ow c O) -∗ run c e Q) -∗ run c (t h) Q)) :
    iprop(cx In K ∗ TA c j ∗ ow c (dA c j + O))
      ⊢ iprop(((DA In c j ∗ ow c O) -∗ run c e Q)
        -∗ run c (.op (.load oM (Rect.unit (s := S8192x1024) o₁ S1024x1024.size h₁).toLoadRect hl) fun _ =>
          .op (.store oM (Rect.unit (s := S8192x1024) o₂ S1024x1024.size h₂) w Finset.univ hx hm) fun _ => if h : p then t h else e) Q) := by
  subst hw
  unfold TA DA dA
  by_cases hj : j = c
  · rw [if_pos hj, if_pos hj, if_pos hj, zero_add, show (fun _ : PUnit => if h : p then t h else e) = fun _ => e from funext fun _ => dif_neg fun h => hp.mp h hj]
    iintro ⟨#HC, ⟨⟨%X, Ho⟩, -⟩, HO⟩ Hk
    iapply (load_out c j ho₁) $$ Ho
    iintro Ho
    iapply (store_out c j ho₂) $$ Ho
    iintro Ho
    iapply Hk
    isplitl [Ho]
    · subst hj; iexact Ho
    iexact HO
  · rw [if_neg hj, if_neg hj, if_neg hj, show (fun _ : PUnit => if h : p then t h else e) = fun _ => t (hp.mpr hj) from funext fun _ => dif_pos (hp.mpr hj)]
    iintro ⟨#HC, ⟨⟨%X, Ho⟩, Hs, Ht₁, Ht₂⟩, HO⟩ Hk
    iapply (load_out c j ho₁) $$ Ho
    iintro Ho
    iapply (store_out c j ho₂) $$ Ho
    iintro Ho
    iapply (ht hj (hp.mpr hj)) $$ [Ho Hs Ht₁ Ht₂ HO]
    · isplitr; · iexact HC
      isplitl [Ho]; · iexact Ho
      isplitl [Hs]; · iexact Hs
      isplitl [Ht₁]; · iexact Ht₁
      isplitl [Ht₂]; · iexact Ht₂
      iexact HO
    iexact Hk

/-- A chunk with the loads of the next. -/
theorem chunk_part (j : Dev nD) (O : CellTallies nD τ sig Unit) {w : Blk F} (hw : w = P In c j)
    {o₁ o₂ : Fin 2 → ℕ} (ho₁ : o₁ = ![1024 * j.val, 0]) (ho₂ : o₂ = ![1024 * j.val, 0])
    {h₁ : ∀ a, o₁ a + S1024x1024.size a ≤ S8192x1024.size a} {h₂ : ∀ a, o₂ a + S1024x1024.size a ≤ S8192x1024.size a}
    {hl : (oM : Memref sig .tc .vmem S8192x1024 .bf16).view.LoadsAt (Rect.unit (s := S8192x1024) o₁ S1024x1024.size h₁).toLoadRect}
    {hx : ((oM : Memref sig .tc .vmem S8192x1024 .bf16).access (Rect.unit (s := S8192x1024) o₂ S1024x1024.size h₂)).Stores Finset.univ}
    {hm : (Finset.univ : Finset S1024x1024.Idx) = Finset.univ ∨ ∀ a, (Rect.unit (s := S8192x1024) o₂ S1024x1024.size h₂).stride a = 1}
    {p : Prop} [Decidable p] (hp : p ↔ ¬ j = c) {t : p → Prog (TpuEff nD τ sig (Elt F) Λ₀ .tc) α}
    {r : LoadRect S2x4096x1024} {r3 r0 r1 r2 : LoadRect S4x1024} {hlx : (xM : Memref sig .tc .vmem S2x4096x1024 .bf16).view.LoadsAt r}
    {h3 : (kM : Memref sig .tc .vmem S4x1024 .f32).view.LoadsAt r3} {h0 : (kM : Memref sig .tc .vmem S4x1024 .f32).view.LoadsAt r0}
    {h1 : (kM : Memref sig .tc .vmem S4x1024 .f32).view.LoadsAt r1} {h2 : (kM : Memref sig .tc .vmem S4x1024 .f32).view.LoadsAt r2}
    {k : (r.shape.Idx → Elt F .bf16) → (r3.shape.Idx → Elt F .f32) → (r0.shape.Idx → Elt F .f32) → (r1.shape.Idx → Elt F .f32) → (r2.shape.Idx → Elt F .f32) → α}
    (ht : ∀ (_ : j ≠ c) (h : p), iprop(cx In K ∗ own c (outM j) (P In c j) ∗ (∃ X, own j (slotM (off c j)) X) ∗ dutyTok ER (snd c (off c j)) 0 0
          ∗ dutyTok ER (rva j (off c j)) 0 0 ∗ ow c (tallyAt (rva j (off c j)) () N + O))
        ⊢ iprop(((cred (tallyAt (snd c (off c j)) () N) ∗ ow c O)
            -∗ run c (.op (.load xM r hlx) fun a => .op (.load kM r3 h3) fun b => .op (.load kM r0 h0) fun d => .op (.load kM r1 h1) fun e => .op (.load kM r2 h2) fun g =>
              .ret (k a b d e g)) Q) -∗ run c (t h) Q))
    {v : α} (hv : k (xM.view.readAt (Elt F) r (In c).x) (kM.view.readAt (Elt F) r3 (In c).k) (kM.view.readAt (Elt F) r0 (In c).k)
          (kM.view.readAt (Elt F) r1 (In c).k) (kM.view.readAt (Elt F) r2 (In c).k) = v) :
    iprop(cx In K ∗ ins In c ∗ TA c j ∗ ow c (dA c j + O))
      ⊢ iprop(((ins In c ∗ DA In c j ∗ ow c O) -∗ Q v)
        -∗ run c (.op (.load oM (Rect.unit (s := S8192x1024) o₁ S1024x1024.size h₁).toLoadRect hl) fun _ =>
          .op (.store oM (Rect.unit (s := S8192x1024) o₂ S1024x1024.size h₂) w Finset.univ hx hm) fun _ => if h : p then t h else
            .op (.load xM r hlx) fun a => .op (.load kM r3 h3) fun b => .op (.load kM r0 h0) fun d => .op (.load kM r1 h1) fun e => .op (.load kM r2 h2) fun g =>
              .ret (k a b d e g)) Q) := by
  subst hv
  iintro ⟨#HC, Hi, Ht, HO⟩ Hk
  iapply (chunk_step In K c j O hw ho₁ ho₂ hp ht) $$ [Ht HO]
  · isplitr; · iexact HC
    isplitl [Ht]; · iexact Ht
    iexact HO
  iintro ⟨Hd, HO⟩
  iapply (load5 In c r) $$ Hi
  iintro Hi
  iapply (ret_step c)
  iapply Hk
  isplitl [Hi]; · iexact Hi
  isplitl [Hd]; · iexact Hd
  iexact HO

/-- A slot's wait and load. -/
theorem recv_step (o : Fin 7) (O : CellTallies nD τ sig Unit) (hO : Above 2 O) {src dst : Memref sig .tc .vmem S1024x1024 .bf16} (hN : dst.view.dmaCredit = N)
    {s : DmaSem sig} (hs : s = semOf (semA 1) o) {hsrc : src.view.WordExact} {hdst : dst.view.WordExact}
    {f3 : Fin 3 → ℕ} (h3 : f3 = ![o.val, 0, 0]) {h : ∀ a, f3 a + S1x1024x1024.size a ≤ S7x1024x1024.size a}
    {hl : (rM : Memref sig .tc .vmem S7x1024x1024 .bf16).view.LoadsAt (Rect.unit (s := S7x1024x1024) f3 S1x1024x1024.size h).toLoadRect}
    {k : (S1x1024x1024.Idx → Elt F .bf16) → Prog (TpuEff nD τ sig (Elt F) Λ₀ .tc) α} :
    iprop(cx In K ∗ WR (F := F) c o ∗ ow c O)
      ⊢ iprop(((DR (P In) c o ∗ ow c O) -∗ run c (k (got In c o)) Q)
        -∗ run c (.op (.waitDma2 s src dst hsrc hdst) fun _ => .op (.load rM (Rect.unit (s := S7x1024x1024) f3 S1x1024x1024.size h).toLoadRect hl) k) Q) := by
  iintro ⟨#HC, Hw, HO⟩ Hk
  iapply (rva_step (P In) (R In) K c o O hO hN hs) $$ [Hw HO]
  · isplitr; · iexact HC
    isplitl [Hw]; · iexact Hw
    iexact HO
  unfold DR rvaPay
  iintro ⟨⟨⟨Hs, Hr⟩, Ha⟩, HO⟩
  iapply (load_slot c o h3) $$ Hs
  iintro Hs
  iapply Hk
  isplitr [HO]
  · isplitr [Ha]
    · isplitl [Hs]
      · iexact Hs
      · iexact Hr
    · iexact Ha
  iexact HO

/-! ## The parts -/

section Facts

theorem facts1 : ∀ c : Dev nD, (k0_cond1 c = 1#1 ↔ ¬ (0 : Dev nD) = c)
    ∧ ((0 : Dev nD) ≠ c → k0_off1 c = ![(off c 0).val] ∧ k0_off2 c = ![(off c 0).val, 0, 0]) := by decide +kernel
theorem facts2 : ∀ c : Dev nD, (k0_cond2 c = 1#1 ↔ ¬ (1 : Dev nD) = c)
    ∧ ((1 : Dev nD) ≠ c → k0_off3 c = ![(off c 1).val] ∧ k0_off4 c = ![(off c 1).val, 0, 0]) := by decide +kernel
theorem facts3 : ∀ c : Dev nD, (k0_cond3 c = 1#1 ↔ ¬ (2 : Dev nD) = c)
    ∧ ((2 : Dev nD) ≠ c → k0_off5 c = ![(off c 2).val] ∧ k0_off6 c = ![(off c 2).val, 0, 0]) := by decide +kernel
theorem facts4 : ∀ c : Dev nD, (k0_cond4 c = 1#1 ↔ ¬ (3 : Dev nD) = c)
    ∧ ((3 : Dev nD) ≠ c → k0_off7 c = ![(off c 3).val] ∧ k0_off8 c = ![(off c 3).val, 0, 0]) := by decide +kernel
theorem facts5 : ∀ c : Dev nD, (k0_cond5 c = 1#1 ↔ ¬ (4 : Dev nD) = c)
    ∧ ((4 : Dev nD) ≠ c → k0_off9 c = ![(off c 4).val] ∧ k0_off10 c = ![(off c 4).val, 0, 0]) := by decide +kernel
theorem facts6 : ∀ c : Dev nD, (k0_cond6 c = 1#1 ↔ ¬ (5 : Dev nD) = c)
    ∧ ((5 : Dev nD) ≠ c → k0_off11 c = ![(off c 5).val] ∧ k0_off12 c = ![(off c 5).val, 0, 0]) := by decide +kernel
theorem facts7 : ∀ c : Dev nD, (k0_cond7 c = 1#1 ↔ ¬ (6 : Dev nD) = c)
    ∧ ((6 : Dev nD) ≠ c → k0_off13 c = ![(off c 6).val] ∧ k0_off14 c = ![(off c 6).val, 0, 0]) := by decide +kernel
theorem facts8 : ∀ c : Dev nD, (k0_cond8 c = 1#1 ↔ ¬ (7 : Dev nD) = c)
    ∧ ((7 : Dev nD) ≠ c → k0_off15 c = ![(off c 7).val] ∧ k0_off16 c = ![(off c 7).val, 0, 0]) := by decide +kernel

end Facts

/-- The first five signals. -/
theorem part1_run (O : CellTallies nD τ sig Unit) {Q : _ → sProp (MT nD τ sig Unit (Elt F) ℕ UU ℕ)} :
    iprop(cx In K ∗ all [0, 1, 2, 3, 4] (TSig (F := F) c) ∗ ow c (debt [0, 1, 2, 3, 4] (dBar c) O))
      ⊢ iprop((∀ v2 v24 c8, ow c O -∗ Q ⟨c, v2, (SemArray.scalar (sig.barrier 0 rfl) : Sems sig S_), v24, c8⟩)
        -∗ run c (k0_part1 (F := F) xM (Memref.isWhole_whole _) kM (Memref.isWhole_whole _) wM (Memref.isWhole_whole _) oM (Memref.isWhole_whole _) rM (Memref.isWhole_whole _) aM (Memref.isWhole_whole _) cc0_scratch2 cc0_scratch3 cc0_scratch4) Q) := by
  rw [k0_part1_eq_skeleton]; unfold k0_part1_skel
  simp only [semSignalWord, Prog.lift, Prog.bind_op, Prog.bind_ret, Prog.pure_eq_ret, wp_deviceId, all_cons, all_nil]
  iintro ⟨#HC, ⟨H0, H1, H2, H3, H4, -⟩, HO⟩ Hk
  iapply (sig_step (P In) (R In) K c 0 (n := ⟨k0_dev1 c, k0_dev1_lt c⟩) (Fin.ext (k0_dev1_eq c)) (k' := (1#32).toInt) (by decide) (debt [1, 2, 3, 4] (dBar c) O)) $$ [H0 HO]
  · isplitr; · iexact HC
    isplitl [H0]; · iexact H0
    iexact HO
  iintro HO
  iapply (sig_step (P In) (R In) K c 1 (n := ⟨k0_dev2 c, k0_dev2_lt c⟩) (Fin.ext (k0_dev2_eq c)) (k' := (1#32).toInt) (by decide) (debt [2, 3, 4] (dBar c) O)) $$ [H1 HO]
  · isplitr; · iexact HC
    isplitl [H1]; · iexact H1
    iexact HO
  iintro HO
  iapply (sig_step (P In) (R In) K c 2 (n := ⟨k0_dev3 c, k0_dev3_lt c⟩) (Fin.ext (k0_dev3_eq c)) (k' := (1#32).toInt) (by decide) (debt [3, 4] (dBar c) O)) $$ [H2 HO]
  · isplitr; · iexact HC
    isplitl [H2]; · iexact H2
    iexact HO
  iintro HO
  iapply (sig_step (P In) (R In) K c 3 (n := ⟨k0_dev4 c, k0_dev4_lt c⟩) (Fin.ext (k0_dev4_eq c)) (k' := (1#32).toInt) (by decide) (debt [4] (dBar c) O)) $$ [H3 HO]
  · isplitr; · iexact HC
    isplitl [H3]; · iexact H3
    iexact HO
  iintro HO
  iapply (sig_step (P In) (R In) K c 4 (n := ⟨k0_dev5 c, k0_dev5_lt c⟩) (Fin.ext (k0_dev5_eq c)) (k' := (1#32).toInt) (by decide) (debt [] (dBar c) O)) $$ [H4 HO]
  · isplitr; · iexact HC
    isplitl [H4]; · iexact H4
    iexact HO
  iintro HO
  iapply (ret_step c)
  iapply Hk; iexact HO

/-- The last two signals, the barrier wait, and the loads of the weights and of the first chunk. -/
theorem part2_run (O : CellTallies nD τ sig Unit) (hO : Above 1 O) (v2 v24 c8) {Q : _ → sProp (MT nD τ sig Unit (Elt F) ℕ UU ℕ)} :
    iprop(cx In K ∗ all [5, 6] (TSig (F := F) c) ∗ cred (tallyAt (bar c) () 7) ∗ atPos ER (bar c) 0 ∅ 0 ∗ ins In c ∗ ow c (debt [5, 6] (dBar c) O))
      ⊢ iprop(((ow c O ∗ atPos ER (bar c) 1 ∅ 0 ∗ (bigSep Finset.univ fun o => barPay (F := F) c o) ∗ ins In c)
          -∗ Q ⟨(In c).wt, k0_pay3 ((In c).xHead 0) ((In c).tap 3) ((In c).tap 0) ((In c).tap 1), k0_pay4 ((In c).xHead 0), ((In c).tap 2)⟩)
        -∗ run c (k0_part2 (F := F) xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (SemArray.scalar (sig.barrier 0 rfl) : Sems sig S_) v24 c8) Q) := by
  rw [k0_part2_eq_skeleton]; unfold k0_part2_skel
  simp only [semSignalWord, semWaitWord, Prog.lift, Prog.bind_op, Prog.bind_ret, Prog.pure_eq_ret, all_cons, all_nil]
  iintro ⟨#HC, ⟨H5, H6, -⟩, Hc, Ha, Hi, HO⟩ Hk
  iapply (sig_step (P In) (R In) K c 5 (n := ⟨k0_dev6 c, k0_dev6_lt c⟩) (Fin.ext (k0_dev6_eq c)) (k' := (1#32).toInt) (by decide) (debt [6] (dBar c) O)) $$ [H5 HO]
  · isplitr; · iexact HC
    isplitl [H5]; · iexact H5
    iexact HO
  iintro HO
  iapply (sig_step (P In) (R In) K c 6 (n := ⟨k0_dev7 c, k0_dev7_lt c⟩) (Fin.ext (k0_dev7_eq c)) (k' := (1#32).toInt) (by decide) (debt [] (dBar c) O)) $$ [H6 HO]
  · isplitr; · iexact HC
    isplitl [H6]; · iexact H6
    iexact HO
  iintro HO
  iapply (bar_step (P In) (R In) K c O hO (k' := (7#32).toInt) (by decide)) $$ [Hc Ha HO]
  · isplitr; · iexact HC
    isplitl [Hc]; · iexact Hc
    isplitl [Ha]; · iexact Ha
    iexact HO
  iintro ⟨HO, Ha, Hb⟩
  unfold ins
  icases Hi with ⟨Hx, Hk', Hw⟩
  iapply (load_in c wM _ (In c).w) $$ Hw
  iintro Hw
  iapply (load5 In c _) $$ [Hx Hk' Hw]
  · unfold ins
    isplitl [Hx]; · iexact Hx
    isplitl [Hk']; · iexact Hk'
    iexact Hw
  iintro Hi
  iapply (ret_step c)
  iapply Hk
  isplitl [HO]; · iexact HO
  isplitl [Ha]; · iexact Ha
  isplitl [Hb]; · iexact Hb
  unfold ins
  iexact Hi

/-- Chunk 0. -/
theorem part3_run (O : CellTallies nD τ sig Unit) (v2) {Q : _ → sProp (MT nD τ sig Unit (Elt F) ℕ UU ℕ)} :
    iprop(cx In K ∗ ins In c ∗ TA c 0 ∗ ow c (dA c 0 + O))
      ⊢ iprop(((ins In c ∗ DA In c 0 ∗ ow c O) -∗ Q ⟨k0_pay7 ((In c).xTail 0 0) ((In c).tap 3) ((In c).tap 0) ((In c).tap 1), k0_pay8 ((In c).xTail 0 0), k0_pay9 ((In c).tap 2)⟩)
        -∗ run c (k0_part3 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay3 ((In c).xHead 0) ((In c).tap 3) ((In c).tap 0) ((In c).tap 1)) (k0_pay4 ((In c).xHead 0)) ((In c).tap 2)) Q) := by
  rw [k0_part3_eq_skeleton]; unfold k0_part3_skel
  simp only [Prog.lift, Prog.bind_op, Prog.bind_ret, Prog.pure_eq_ret]
  refine chunk_part In K c 0 O ?_ ?_ ?_ (facts1 c).1 ?_ ?_
  · rfl
  · rfl
  · rfl
  swap
  · rfl
  intro hj h
  iintro H Hk
  iapply (sendA_step (P In) (R In) K c (off c 0) (pr_off c 0 hj).symm (n := ⟨k0_dev8, k0_dev8_lt c h⟩) (Fin.ext k0_dev8_eq) (out_eq 0 (f := ![0, 0]) rfl)
      (slot_eq _ ((facts1 c).2 hj).2) (sem_eq _ _ ((facts1 c).2 hj).1) (sem_eq _ _ ((facts1 c).2 hj).1) O) $$ H
  iexact Hk

/-- Chunk 1. -/
theorem part4_run (O : CellTallies nD τ sig Unit) (v2) {Q : _ → sProp (MT nD τ sig Unit (Elt F) ℕ UU ℕ)} :
    iprop(cx In K ∗ ins In c ∗ TA c 1 ∗ ow c (dA c 1 + O))
      ⊢ iprop(((ins In c ∗ DA In c 1 ∗ ow c O) -∗ Q ⟨k0_pay12 ((In c).xTail 0 1) ((In c).tap 3) ((In c).tap 0) ((In c).tap 1), k0_pay13 ((In c).xTail 0 1), k0_pay14 ((In c).tap 2)⟩)
        -∗ run c (k0_part4 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay7 ((In c).xTail 0 0) ((In c).tap 3) ((In c).tap 0) ((In c).tap 1)) (k0_pay8 ((In c).xTail 0 0)) (k0_pay9 ((In c).tap 2))) Q) := by
  rw [k0_part4_eq_skeleton]; unfold k0_part4_skel
  simp only [Prog.lift, Prog.bind_op, Prog.bind_ret, Prog.pure_eq_ret]
  refine chunk_part In K c 1 O ?_ ?_ ?_ (facts2 c).1 ?_ ?_
  · rfl
  · rfl
  · rfl
  swap
  · rfl
  intro hj h
  iintro H Hk
  iapply (sendA_step (P In) (R In) K c (off c 1) (pr_off c 1 hj).symm (n := ⟨k0_dev9, k0_dev9_lt c h⟩) (Fin.ext k0_dev9_eq) (out_eq 1 (f := ![1024, 0]) rfl)
      (slot_eq _ ((facts2 c).2 hj).2) (sem_eq _ _ ((facts2 c).2 hj).1) (sem_eq _ _ ((facts2 c).2 hj).1) O) $$ H
  iexact Hk

/-- Chunk 2. -/
theorem part5_run (O : CellTallies nD τ sig Unit) (v2) {Q : _ → sProp (MT nD τ sig Unit (Elt F) ℕ UU ℕ)} :
    iprop(cx In K ∗ ins In c ∗ TA c 2 ∗ ow c (dA c 2 + O))
      ⊢ iprop(((ins In c ∗ DA In c 2 ∗ ow c O) -∗ Q ⟨k0_pay17 ((In c).xTail 0 2) ((In c).tap 3) ((In c).tap 0) ((In c).tap 1), k0_pay18 ((In c).xTail 0 2) ((In c).tap 2)⟩)
        -∗ run c (k0_part5 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay12 ((In c).xTail 0 1) ((In c).tap 3) ((In c).tap 0) ((In c).tap 1)) (k0_pay13 ((In c).xTail 0 1)) (k0_pay14 ((In c).tap 2))) Q) := by
  rw [k0_part5_eq_skeleton]; unfold k0_part5_skel
  simp only [Prog.lift, Prog.bind_op, Prog.bind_ret, Prog.pure_eq_ret]
  refine chunk_part In K c 2 O ?_ ?_ ?_ (facts3 c).1 ?_ ?_
  · rfl
  · rfl
  · rfl
  swap
  · rfl
  intro hj h
  iintro H Hk
  iapply (sendA_step (P In) (R In) K c (off c 2) (pr_off c 2 hj).symm (n := ⟨k0_dev10, k0_dev10_lt c h⟩) (Fin.ext k0_dev10_eq) (out_eq 2 (f := ![2048, 0]) rfl)
      (slot_eq _ ((facts3 c).2 hj).2) (sem_eq _ _ ((facts3 c).2 hj).1) (sem_eq _ _ ((facts3 c).2 hj).1) O) $$ H
  iexact Hk

/-- Chunk 3. -/
theorem part6_run (O : CellTallies nD τ sig Unit) (v2) {Q : _ → sProp (MT nD τ sig Unit (Elt F) ℕ UU ℕ)} :
    iprop(cx In K ∗ ins In c ∗ TA c 3 ∗ ow c (dA c 3 + O))
      ⊢ iprop(((ins In c ∗ DA In c 3 ∗ ow c O) -∗ Q ⟨k0_pay21 ((In c).xHead 1) ((In c).tap 3) ((In c).tap 0) ((In c).tap 1), k0_pay22 ((In c).xHead 1), k0_pay23 ((In c).tap 2)⟩)
        -∗ run c (k0_part6 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay17 ((In c).xTail 0 2) ((In c).tap 3) ((In c).tap 0) ((In c).tap 1)) (k0_pay18 ((In c).xTail 0 2) ((In c).tap 2))) Q) := by
  rw [k0_part6_eq_skeleton]; unfold k0_part6_skel
  simp only [Prog.lift, Prog.bind_op, Prog.bind_ret, Prog.pure_eq_ret]
  refine chunk_part In K c 3 O ?_ ?_ ?_ (facts4 c).1 ?_ ?_
  · rfl
  · rfl
  · rfl
  swap
  · rfl
  intro hj h
  iintro H Hk
  iapply (sendA_step (P In) (R In) K c (off c 3) (pr_off c 3 hj).symm (n := ⟨k0_dev11, k0_dev11_lt c h⟩) (Fin.ext k0_dev11_eq) (out_eq 3 (f := ![3072, 0]) rfl)
      (slot_eq _ ((facts4 c).2 hj).2) (sem_eq _ _ ((facts4 c).2 hj).1) (sem_eq _ _ ((facts4 c).2 hj).1) O) $$ H
  iexact Hk

/-- Chunk 4. -/
theorem part7_run (O : CellTallies nD τ sig Unit) (v2) {Q : _ → sProp (MT nD τ sig Unit (Elt F) ℕ UU ℕ)} :
    iprop(cx In K ∗ ins In c ∗ TA c 4 ∗ ow c (dA c 4 + O))
      ⊢ iprop(((ins In c ∗ DA In c 4 ∗ ow c O) -∗ Q ⟨k0_pay26 ((In c).xTail 1 0) ((In c).tap 3) ((In c).tap 0) ((In c).tap 1), k0_pay27 ((In c).xTail 1 0), k0_pay28 ((In c).tap 2)⟩)
        -∗ run c (k0_part7 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay21 ((In c).xHead 1) ((In c).tap 3) ((In c).tap 0) ((In c).tap 1)) (k0_pay22 ((In c).xHead 1)) (k0_pay23 ((In c).tap 2))) Q) := by
  rw [k0_part7_eq_skeleton]; unfold k0_part7_skel
  simp only [Prog.lift, Prog.bind_op, Prog.bind_ret, Prog.pure_eq_ret]
  refine chunk_part In K c 4 O ?_ ?_ ?_ (facts5 c).1 ?_ ?_
  · rfl
  · rfl
  · rfl
  swap
  · rfl
  intro hj h
  iintro H Hk
  iapply (sendA_step (P In) (R In) K c (off c 4) (pr_off c 4 hj).symm (n := ⟨k0_dev12, k0_dev12_lt c h⟩) (Fin.ext k0_dev12_eq) (out_eq 4 (f := ![4096, 0]) rfl)
      (slot_eq _ ((facts5 c).2 hj).2) (sem_eq _ _ ((facts5 c).2 hj).1) (sem_eq _ _ ((facts5 c).2 hj).1) O) $$ H
  iexact Hk

/-- Chunk 5. -/
theorem part8_run (O : CellTallies nD τ sig Unit) (v2) {Q : _ → sProp (MT nD τ sig Unit (Elt F) ℕ UU ℕ)} :
    iprop(cx In K ∗ ins In c ∗ TA c 5 ∗ ow c (dA c 5 + O))
      ⊢ iprop(((ins In c ∗ DA In c 5 ∗ ow c O) -∗ Q ⟨k0_pay31 ((In c).xTail 1 1) ((In c).tap 3) ((In c).tap 0) ((In c).tap 1), k0_pay32 ((In c).xTail 1 1) ((In c).tap 2)⟩)
        -∗ run c (k0_part8 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay26 ((In c).xTail 1 0) ((In c).tap 3) ((In c).tap 0) ((In c).tap 1)) (k0_pay27 ((In c).xTail 1 0)) (k0_pay28 ((In c).tap 2))) Q) := by
  rw [k0_part8_eq_skeleton]; unfold k0_part8_skel
  simp only [Prog.lift, Prog.bind_op, Prog.bind_ret, Prog.pure_eq_ret]
  refine chunk_part In K c 5 O ?_ ?_ ?_ (facts6 c).1 ?_ ?_
  · rfl
  · rfl
  · rfl
  swap
  · rfl
  intro hj h
  iintro H Hk
  iapply (sendA_step (P In) (R In) K c (off c 5) (pr_off c 5 hj).symm (n := ⟨k0_dev13, k0_dev13_lt c h⟩) (Fin.ext k0_dev13_eq) (out_eq 5 (f := ![5120, 0]) rfl)
      (slot_eq _ ((facts6 c).2 hj).2) (sem_eq _ _ ((facts6 c).2 hj).1) (sem_eq _ _ ((facts6 c).2 hj).1) O) $$ H
  iexact Hk

/-- Chunk 6. -/
theorem part9_run (O : CellTallies nD τ sig Unit) (v2) {Q : _ → sProp (MT nD τ sig Unit (Elt F) ℕ UU ℕ)} :
    iprop(cx In K ∗ ins In c ∗ TA c 6 ∗ ow c (dA c 6 + O))
      ⊢ iprop(((ins In c ∗ DA In c 6 ∗ ow c O) -∗ Q (k0_pay34 ((In c).xTail 1 2) ((In c).tap 3) ((In c).tap 0) ((In c).tap 1) ((In c).tap 2)))
        -∗ run c (k0_part9 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay31 ((In c).xTail 1 1) ((In c).tap 3) ((In c).tap 0) ((In c).tap 1)) (k0_pay32 ((In c).xTail 1 1) ((In c).tap 2))) Q) := by
  rw [k0_part9_eq_skeleton]; unfold k0_part9_skel
  simp only [Prog.lift, Prog.bind_op, Prog.bind_ret, Prog.pure_eq_ret]
  refine chunk_part In K c 6 O ?_ ?_ ?_ (facts7 c).1 ?_ ?_
  · rfl
  · rfl
  · rfl
  swap
  · rfl
  intro hj h
  iintro H Hk
  iapply (sendA_step (P In) (R In) K c (off c 6) (pr_off c 6 hj).symm (n := ⟨k0_dev14, k0_dev14_lt c h⟩) (Fin.ext k0_dev14_eq) (out_eq 6 (f := ![6144, 0]) rfl)
      (slot_eq _ ((facts7 c).2 hj).2) (sem_eq _ _ ((facts7 c).2 hj).1) (sem_eq _ _ ((facts7 c).2 hj).1) O) $$ H
  iexact Hk

/-- A family over the devices that is special at `c`. -/
theorem around_at (X : sProp 𝕄) (Φ : Dev nD → Fin 7 → sProp 𝕄) :
    bigSep Finset.univ (fun j : Dev nD => if j = c then X else Φ j (off c j)) = iprop(X ∗ bigSep Finset.univ fun o => Φ (pr c o) o) := by
  have h (Y : sProp 𝕄) : bigSep Finset.univ (fun j : Dev nD => if j = c then Y else Φ j (off c j))
      = iprop(Y ∗ bigSep (Finset.univ.erase c) fun j : Dev nD => Φ j (off c j)) := by
    rw [bigSep_univ_at _ c, if_pos rfl]
    congr 1
    exact bigSep_congr fun j hj => if_neg (Finset.ne_of_mem_erase hj)
  rw [around c Φ, h, h]
  congr 1
  exact (equiv_iff.mp BI.emp_sep).symm

end Body

end Cert.Mesh

end
-- ==== Proof.Parts.lean ====
/-
  The kernel's later parts on one device: the last chunk, the landings and the sum, and the second exchange.
-/
module

public import proofs.«01_k».proof.Proof.Body
public import Idealize.ShloMosaic.Lib.Pipeline.Value

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem pay39 (v : FVec F S1024x1024 .bf16) : k0_pay39 v = v := shapeCast_self _ _

section Parts

variable (In : Dev nD → Ins F) (K : Dev nD × Cx → ℕ) (c : Dev nD)

/-- Every chunk computed: the device holds its own block, and a credit for each send. -/
theorem chunks_done : iprop(DA In c 7 ∗ all [6, 5, 4, 3, 2, 1, 0] (DA In c))
    = iprop(own c (outM c) (P In c c) ∗ bigSep Finset.univ fun o : Fin 7 => (cred (tallyAt (snd c o) () N) : sProp 𝕄)) := by
  rw [← all_cons, ← all8']
  exact around_at c (own c (outM c) (P In c c)) fun _ o => (cred (tallyAt (snd c o) () N) : sProp 𝕄)

/-- The last chunk, and the first landing. -/
theorem part10_run (O : CellTallies nD τ sig Unit) (hO : Above 2 O) (v2) {Q : _ → sProp (MT nD τ sig Unit (Elt F) ℕ UU ℕ)} :
    iprop(cx In K ∗ TA c 7 ∗ all [6, 5, 4, 3, 2, 1, 0] (DA In c) ∗ WR (F := F) c 0 ∗ ow c (dA c 7 + O))
      ⊢ iprop(((own c (outM c) (P In c c) ∗ (bigSep Finset.univ fun o : Fin 7 => (cred (tallyAt (snd c o) () N) : sProp 𝕄)) ∗ DR (P In) c 0 ∗ ow c O) -∗ Q (acc0 In c))
        -∗ run c (k0_part10 xM (Memref.isWhole_whole _) kM (Memref.isWhole_whole _) wM (Memref.isWhole_whole _) oM (Memref.isWhole_whole _) rM (Memref.isWhole_whole _) aM (Memref.isWhole_whole _) cc0_scratch2 cc0_scratch3 cc0_scratch4
          c v2 (In c).wt (k0_pay34 ((In c).xTail 1 2) ((In c).tap 3) ((In c).tap 0) ((In c).tap 1) ((In c).tap 2))) Q) := by
  rw [k0_part10_eq_skeleton]; unfold k0_part10_skel
  simp only [Prog.lift, Prog.bind_op, Prog.bind_ret, Prog.pure_eq_ret]
  iintro ⟨#HC, Ht, Hd, H0, HO⟩ Hk
  iapply (chunk_step In K c 7 O (w := k0_pay35 (In c).wt (k0_pay34 ((In c).xTail 1 2) ((In c).tap 3) ((In c).tap 0) ((In c).tap 1) ((In c).tap 2))) rfl
      (o₁ := ![7168, 0]) (o₂ := ![7168, 0]) rfl rfl (facts8 c).1 (fun hj h => by
    iintro H Hk
    iapply (sendA_step (P In) (R In) K c (off c 7) (pr_off c 7 hj).symm (n := ⟨k0_dev15, k0_dev15_lt c h⟩) (Fin.ext k0_dev15_eq) (out_eq 7 (f := ![7168, 0]) rfl)
      (slot_eq _ ((facts8 c).2 hj).2) (sem_eq _ _ ((facts8 c).2 hj).1) (sem_eq _ _ ((facts8 c).2 hj).1) O) $$ H
    iexact Hk)) $$ [Ht HO]
  · isplitr; · iexact HC
    isplitl [Ht]; · iexact Ht
    iexact HO
  iintro ⟨H7, HO⟩
  ihave Hd := (Entails.of_eq (chunks_done In c)) $$ [H7 Hd]
  · isplitl [H7]; · iexact H7
    iexact Hd
  icases Hd with ⟨Ho, Hd⟩
  iapply (load_out c c (k0_off17_eq c)) $$ Ho
  iintro Ho
  iapply (recv_step In K c 0 O hO (dst := slotM 0) rfl (s := semOf (semA 1) 0) rfl (f3 := ![0, 0, 0]) rfl) $$ [H0 HO]
  · isplitr; · iexact HC
    isplitl [H0]; · iexact H0
    iexact HO
  iintro ⟨H0, HO⟩
  iapply (ret_step c)
  iapply Hk
  isplitl [Ho]; · iexact Ho
  isplitl [Hd]; · iexact Hd
  isplitl [H0]; · iexact H0
  iexact HO

/-- Three more landings. -/
theorem part11_run (O : CellTallies nD τ sig Unit) (hO : Above 2 O) (v2) {Q : _ → sProp (MT nD τ sig Unit (Elt F) ℕ UU ℕ)} :
    iprop(cx In K ∗ all [1, 2, 3] (WR (F := F) c) ∗ ow c O)
      ⊢ iprop(((all [1, 2, 3] (DR (P In) c) ∗ ow c O) -∗ Q (acc3 In c))
        -∗ run c (k0_part11 xM (Memref.isWhole_whole _) kM (Memref.isWhole_whole _) wM (Memref.isWhole_whole _) oM (Memref.isWhole_whole _) rM (Memref.isWhole_whole _) aM (Memref.isWhole_whole _) cc0_scratch2 cc0_scratch3 cc0_scratch4 v2 (acc0 In c)) Q) := by
  rw [k0_part11_eq_skeleton]; unfold k0_part11_skel
  simp only [Prog.lift, Prog.bind_op, Prog.bind_ret, Prog.pure_eq_ret, all_cons, all_nil]
  iintro ⟨#HC, ⟨H1, H2, H3, -⟩, HO⟩ Hk
  iapply (recv_step In K c 1 O hO (dst := slotM 1) rfl (s := semOf (semA 1) 1) rfl (f3 := ![1, 0, 0]) rfl) $$ [H1 HO]
  · isplitr; · iexact HC
    isplitl [H1]; · iexact H1
    iexact HO
  iintro ⟨H1, HO⟩
  iapply (recv_step In K c 2 O hO (dst := slotM 2) rfl (s := semOf (semA 1) 2) rfl (f3 := ![2, 0, 0]) rfl) $$ [H2 HO]
  · isplitr; · iexact HC
    isplitl [H2]; · iexact H2
    iexact HO
  iintro ⟨H2, HO⟩
  iapply (recv_step In K c 3 O hO (dst := slotM 3) rfl (s := semOf (semA 1) 3) rfl (f3 := ![3, 0, 0]) rfl) $$ [H3 HO]
  · isplitr; · iexact HC
    isplitl [H3]; · iexact H3
    iexact HO
  iintro ⟨H3, HO⟩
  iapply (ret_step c)
  iapply Hk
  isplitr [HO]
  · isplitl [H1]; · iexact H1
    isplitl [H2]; · iexact H2
    isplitl [H3]; · iexact H3
    iempintro
  iexact HO

/-- The last three landings. -/
theorem part12_run (O : CellTallies nD τ sig Unit) (hO : Above 2 O) (v2) {Q : _ → sProp (MT nD τ sig Unit (Elt F) ℕ UU ℕ)} :
    iprop(cx In K ∗ all [4, 5, 6] (WR (F := F) c) ∗ (∃ X, own (F := F) c aM X) ∗ ow c O)
      ⊢ iprop((∀ v, (all [4, 5, 6] (DR (P In) c) ∗ (∃ X, own (F := F) c aM X) ∗ ow c O) -∗ Q ⟨R In c, v⟩)
        -∗ run c (k0_part12 xM (Memref.isWhole_whole _) kM (Memref.isWhole_whole _) wM (Memref.isWhole_whole _) oM (Memref.isWhole_whole _) rM (Memref.isWhole_whole _) aM (Memref.isWhole_whole _) cc0_scratch2 cc0_scratch3 cc0_scratch4 v2 (acc3 In c)) Q) := by
  rw [k0_part12_eq_skeleton]; unfold k0_part12_skel
  simp only [Prog.lift, Prog.bind_op, Prog.bind_ret, Prog.pure_eq_ret, all_cons, all_nil]
  iintro ⟨#HC, ⟨H4, H5, H6, -⟩, ⟨%X, Ha⟩, HO⟩ Hk
  iapply (recv_step In K c 4 O hO (dst := slotM 4) rfl (s := semOf (semA 1) 4) rfl (f3 := ![4, 0, 0]) rfl) $$ [H4 HO]
  · isplitr; · iexact HC
    isplitl [H4]; · iexact H4
    iexact HO
  iintro ⟨H4, HO⟩
  iapply (recv_step In K c 5 O hO (dst := slotM 5) rfl (s := semOf (semA 1) 5) rfl (f3 := ![5, 0, 0]) rfl) $$ [H5 HO]
  · isplitr; · iexact HC
    isplitl [H5]; · iexact H5
    iexact HO
  iintro ⟨H5, HO⟩
  iapply (recv_step In K c 6 O hO (dst := slotM 6) rfl (s := semOf (semA 1) 6) rfl (f3 := ![6, 0, 0]) rfl) $$ [H6 HO]
  · isplitr; · iexact HC
    isplitl [H6]; · iexact H6
    iexact HO
  iintro ⟨H6, HO⟩
  iapply (load_red c rfl) $$ Ha
  iintro Ha
  iapply (ret_step c)
  rw [show k0_pay38 (acc3 In c) (got In c 4) (got In c 5) (got In c 6) = R In c from rfl]
  iapply Hk
  isplitr [Ha HO]
  · isplitl [H4]; · iexact H4
    isplitl [H5]; · iexact H5
    isplitl [H6]; · iexact H6
    iempintro
  isplitl [Ha]; · iexists X; iexact Ha
  iexact HO

/-- The sum is stored, and four sends are waited for. -/
theorem part13_run (O : CellTallies nD τ sig Unit) (hO : Above 0 O) (v2 v) {Q : _ → sProp (MT nD τ sig Unit (Elt F) ℕ UU ℕ)} :
    iprop(cx In K ∗ (∃ X, own (F := F) c aM X) ∗ own c (outM c) (P In c c) ∗ all [0, 1, 2, 3] (WS (F := F) c) ∗ ow c O)
      ⊢ iprop(((own c aM (R In c) ∗ own c (outM c) (R In c) ∗ all [0, 1, 2, 3] (DS (F := F) c) ∗ ow c O) -∗ Q ⟨⟩)
        -∗ run c (k0_part13 xM (Memref.isWhole_whole _) kM (Memref.isWhole_whole _) wM (Memref.isWhole_whole _) oM (Memref.isWhole_whole _) rM (Memref.isWhole_whole _) aM (Memref.isWhole_whole _) cc0_scratch2 cc0_scratch3 cc0_scratch4 c v2 (R In c) v) Q) := by
  rw [k0_part13_eq_skeleton]; unfold k0_part13_skel
  simp only [Prog.lift, Prog.bind_op, Prog.bind_ret, Prog.pure_eq_ret, all_cons, all_nil]
  rw [pay39]
  iintro ⟨#HC, ⟨%X, Ha⟩, Ho, ⟨H0, H1, H2, H3, -⟩, HO⟩ Hk
  iapply (store_red c rfl) $$ Ha
  iintro Ha
  iapply (load_out c c (k0_off17_eq c)) $$ Ho
  iintro Ho
  iapply (store_out c c (k0_off17_eq c)) $$ Ho
  iintro Ho
  iapply (snd0_step (P In) (R In) K c 0 O hO rfl rfl) $$ [H0 HO]
  · isplitr; · iexact HC
    isplitl [H0]; · iexact H0
    iexact HO
  iintro ⟨H0, HO⟩
  iapply (snd0_step (P In) (R In) K c 1 O hO rfl rfl) $$ [H1 HO]
  · isplitr; · iexact HC
    isplitl [H1]; · iexact H1
    iexact HO
  iintro ⟨H1, HO⟩
  iapply (snd0_step (P In) (R In) K c 2 O hO rfl rfl) $$ [H2 HO]
  · isplitr; · iexact HC
    isplitl [H2]; · iexact H2
    iexact HO
  iintro ⟨H2, HO⟩
  iapply (snd0_step (P In) (R In) K c 3 O hO rfl rfl) $$ [H3 HO]
  · isplitr; · iexact HC
    isplitl [H3]; · iexact H3
    iexact HO
  iintro ⟨H3, HO⟩
  iapply (ret_step c)
  iapply Hk
  isplitl [Ha]; · iexact Ha
  isplitl [Ho]; · iexact Ho
  isplitr [HO]
  · isplitl [H0]; · iexact H0
    isplitl [H1]; · iexact H1
    isplitl [H2]; · iexact H2
    isplitl [H3]; · iexact H3
    iempintro
  iexact HO

/-- The last three sends are waited for, and the sum goes to the next device. -/
theorem part14_run (O : CellTallies nD τ sig Unit) (O' : CellTallies nD τ sig Unit) (hO' : O' = dB c 0 + O) (hO : Above 0 O') (v2) {Q : _ → sProp (MT nD τ sig Unit (Elt F) ℕ UU ℕ)} :
    iprop(cx In K ∗ all [4, 5, 6] (WS (F := F) c) ∗ TB (R In) c 0 ∗ ow c O')
      ⊢ iprop((∀ a b, (all [4, 5, 6] (DS (F := F) c) ∗ cred (tallyAt (snd c 0) () N) ∗ ow c O) -∗ Q ⟨a, b⟩)
        -∗ run c (k0_part14 xM (Memref.isWhole_whole _) kM (Memref.isWhole_whole _) wM (Memref.isWhole_whole _) oM (Memref.isWhole_whole _) rM (Memref.isWhole_whole _) aM (Memref.isWhole_whole _) cc0_scratch2 cc0_scratch3 cc0_scratch4 c v2) Q) := by
  rw [k0_part14_eq_skeleton]; unfold k0_part14_skel
  simp only [Prog.lift, Prog.bind_op, Prog.bind_ret, Prog.pure_eq_ret, all_cons, all_nil]
  iintro ⟨#HC, ⟨H4, H5, H6, -⟩, T0, HO⟩ Hk
  iapply (snd0_step (P In) (R In) K c 4 O' hO (dst := aM) rfl (s := semOf (semA 0) 4) rfl) $$ [H4 HO]
  · isplitr; · iexact HC
    isplitl [H4]; · iexact H4
    iexact HO
  iintro ⟨H4, HO⟩
  iapply (snd0_step (P In) (R In) K c 5 O' hO (dst := aM) rfl (s := semOf (semA 0) 5) rfl) $$ [H5 HO]
  · isplitr; · iexact HC
    isplitl [H5]; · iexact H5
    iexact HO
  iintro ⟨H5, HO⟩
  iapply (snd0_step (P In) (R In) K c 6 O' hO (dst := aM) rfl (s := semOf (semA 0) 6) rfl) $$ [H6 HO]
  · isplitr; · iexact HC
    isplitl [H6]; · iexact H6
    iexact HO
  iintro ⟨H6, HO⟩
  rw [hO']
  iapply (sendB_step (P In) (R In) K c 0 (n := ⟨k0_dev16 c, k0_dev16_lt c⟩) (Fin.ext (k0_dev16_eq c)) (out_eq c (k0_off18_eq c))
    (sS := semOf (semA 0) 0) rfl (sR := semOf (semA 2) 0) rfl (O)) $$ [T0 HO]
  · isplitr; · iexact HC
    isplitl [T0]; · iexact T0
    iexact HO
  iintro ⟨C0, HO⟩
  iapply (ret_step c)
  iapply Hk
  isplitr [C0 HO]
  · isplitl [H4]; · iexact H4
    isplitl [H5]; · iexact H5
    isplitl [H6]; · iexact H6
    iempintro
  isplitl [C0]; · iexact C0
  iexact HO

/-- Three more sums are sent. -/
theorem part15_run (O : CellTallies nD τ sig Unit) (v2) {Q : _ → sProp (MT nD τ sig Unit (Elt F) ℕ UU ℕ)} :
    iprop(cx In K ∗ all [1, 2, 3] (TB (R In) c) ∗ ow c (debt [1, 2, 3] (dB c) O))
      ⊢ iprop((∀ a b d, (all [1, 2, 3] (fun o => (cred (tallyAt (snd c o) () N) : sProp 𝕄)) ∗ ow c O) -∗ Q ⟨a, b, d⟩)
        -∗ run c (k0_part15 xM (Memref.isWhole_whole _) kM (Memref.isWhole_whole _) wM (Memref.isWhole_whole _) oM (Memref.isWhole_whole _) rM (Memref.isWhole_whole _) aM (Memref.isWhole_whole _) cc0_scratch2 cc0_scratch3 cc0_scratch4 c v2) Q) := by
  rw [k0_part15_eq_skeleton]; unfold k0_part15_skel
  simp only [Prog.lift, Prog.bind_op, Prog.bind_ret, Prog.pure_eq_ret, all_cons, all_nil]
  iintro ⟨#HC, ⟨T1, T2, T3, -⟩, HO⟩ Hk
  iapply (sendB_step (P In) (R In) K c 1 (n := ⟨k0_dev17 c, k0_dev17_lt c⟩) (Fin.ext (k0_dev17_eq c)) (out_eq c (k0_off18_eq c))
    (sS := semOf (semA 0) 1) rfl (sR := semOf (semA 2) 1) rfl (debt [2, 3] (dB c) O)) $$ [T1 HO]
  · isplitr; · iexact HC
    isplitl [T1]; · iexact T1
    iexact HO
  iintro ⟨C1, HO⟩
  iapply (sendB_step (P In) (R In) K c 2 (n := ⟨k0_dev18 c, k0_dev18_lt c⟩) (Fin.ext (k0_dev18_eq c)) (out_eq c (k0_off18_eq c))
    (sS := semOf (semA 0) 2) rfl (sR := semOf (semA 2) 2) rfl (debt [3] (dB c) O)) $$ [T2 HO]
  · isplitr; · iexact HC
    isplitl [T2]; · iexact T2
    iexact HO
  iintro ⟨C2, HO⟩
  iapply (sendB_step (P In) (R In) K c 3 (n := ⟨k0_dev19 c, k0_dev19_lt c⟩) (Fin.ext (k0_dev19_eq c)) (out_eq c (k0_off18_eq c))
    (sS := semOf (semA 0) 3) rfl (sR := semOf (semA 2) 3) rfl (O)) $$ [T3 HO]
  · isplitr; · iexact HC
    isplitl [T3]; · iexact T3
    iexact HO
  iintro ⟨C3, HO⟩
  iapply (ret_step c)
  iapply Hk
  isplitr [HO]
  · isplitl [C1]; · iexact C1
    isplitl [C2]; · iexact C2
    isplitl [C3]; · iexact C3
    iempintro
  iexact HO

/-- The last three sums are sent, and the first is waited for. -/
theorem part16_run (v2 v v') {Q : _ → sProp (MT nD τ sig Unit (Elt F) ℕ UU ℕ)} :
    iprop(cx In K ∗ all [4, 5, 6] (TB (R In) c) ∗ WB (F := F) c 0 ∗ ow c (debt [4, 5, 6] (dB c) 0))
      ⊢ iprop((∀ a b, (all [4, 5, 6] (fun o => (cred (tallyAt (snd c o) () N) : sProp 𝕄)) ∗ DB (R In) c 0 ∗ ow c 0) -∗ Q ⟨a, b⟩)
        -∗ run c (k0_part16 xM (Memref.isWhole_whole _) kM (Memref.isWhole_whole _) wM (Memref.isWhole_whole _) oM (Memref.isWhole_whole _) rM (Memref.isWhole_whole _) aM (Memref.isWhole_whole _) cc0_scratch2 cc0_scratch3 cc0_scratch4 c v2 v v') Q) := by
  rw [k0_part16_eq_skeleton]; unfold k0_part16_skel
  simp only [Prog.lift, Prog.bind_op, Prog.bind_ret, Prog.pure_eq_ret, all_cons, all_nil]
  iintro ⟨#HC, ⟨T4, T5, T6, -⟩, B0, HO⟩ Hk
  iapply (sendB_step (P In) (R In) K c 4 (n := ⟨k0_dev20 c, k0_dev20_lt c⟩) (Fin.ext (k0_dev20_eq c)) (out_eq c (k0_off18_eq c))
    (sS := semOf (semA 0) 4) rfl (sR := semOf (semA 2) 4) rfl (debt [5, 6] (dB c) 0)) $$ [T4 HO]
  · isplitr; · iexact HC
    isplitl [T4]; · iexact T4
    iexact HO
  iintro ⟨C4, HO⟩
  iapply (sendB_step (P In) (R In) K c 5 (n := ⟨k0_dev21 c, k0_dev21_lt c⟩) (Fin.ext (k0_dev21_eq c)) (out_eq c (k0_off18_eq c))
    (sS := semOf (semA 0) 5) rfl (sR := semOf (semA 2) 5) rfl (debt [6] (dB c) 0)) $$ [T5 HO]
  · isplitr; · iexact HC
    isplitl [T5]; · iexact T5
    iexact HO
  iintro ⟨C5, HO⟩
  iapply (sendB_step (P In) (R In) K c 6 (n := ⟨k0_dev22 c, k0_dev22_lt c⟩) (Fin.ext (k0_dev22_eq c)) (out_eq c (k0_off18_eq c))
    (sS := semOf (semA 0) 6) rfl (sR := semOf (semA 2) 6) rfl (0)) $$ [T6 HO]
  · isplitr; · iexact HC
    isplitl [T6]; · iexact T6
    iexact HO
  iintro ⟨C6, HO⟩
  iapply (rvb_step (P In) (R In) K c 0 0 (above_zero 3) (dst := oM.slice (Rect.unit (s := S8192x1024) (k0_off18 c) S1024x1024.size (k0_off18_inb c)) (fun _ => rfl)) rfl (s := semOf (semA 2) 0) rfl) $$ [B0 HO]
  · isplitr; · iexact HC
    isplitl [B0]; · iexact B0
    iexact HO
  iintro ⟨B0, HO⟩
  iapply (ret_step c)
  iapply Hk
  isplitr [B0 HO]
  · isplitl [C4]; · iexact C4
    isplitl [C5]; · iexact C5
    isplitl [C6]; · iexact C6
    iempintro
  isplitl [B0]; · iexact B0
  iexact HO

/-- The other sums are waited for. -/
theorem part17_run (a b d e f) {Q : _ → sProp (MT nD τ sig Unit (Elt F) ℕ UU ℕ)} :
    iprop(cx In K ∗ all [1, 2, 3, 4, 5, 6] (WB (F := F) c) ∗ ow c 0)
      ⊢ iprop(((all [1, 2, 3, 4, 5, 6] (DB (R In) c) ∗ ow c 0) -∗ Q ⟨⟩)
        -∗ run c (k0_part17 xM (Memref.isWhole_whole _) kM (Memref.isWhole_whole _) wM (Memref.isWhole_whole _) oM (Memref.isWhole_whole _) rM (Memref.isWhole_whole _) aM (Memref.isWhole_whole _) cc0_scratch2 cc0_scratch3 cc0_scratch4 c a b d e f) Q) := by
  rw [k0_part17_eq_skeleton]; unfold k0_part17_skel
  simp only [Prog.lift, Prog.bind_op, Prog.bind_ret, Prog.pure_eq_ret, all_cons, all_nil]
  iintro ⟨#HC, ⟨B1, B2, B3, B4, B5, B6, -⟩, HO⟩ Hk
  iapply (rvb_step (P In) (R In) K c 1 0 (above_zero 3) (dst := oM.slice (Rect.unit (s := S8192x1024) (k0_off18 c) S1024x1024.size (k0_off18_inb c)) (fun _ => rfl)) rfl (s := semOf (semA 2) 1) rfl) $$ [B1 HO]
  · isplitr; · iexact HC
    isplitl [B1]; · iexact B1
    iexact HO
  iintro ⟨B1, HO⟩
  iapply (rvb_step (P In) (R In) K c 2 0 (above_zero 3) (dst := oM.slice (Rect.unit (s := S8192x1024) (k0_off18 c) S1024x1024.size (k0_off18_inb c)) (fun _ => rfl)) rfl (s := semOf (semA 2) 2) rfl) $$ [B2 HO]
  · isplitr; · iexact HC
    isplitl [B2]; · iexact B2
    iexact HO
  iintro ⟨B2, HO⟩
  iapply (rvb_step (P In) (R In) K c 3 0 (above_zero 3) (dst := oM.slice (Rect.unit (s := S8192x1024) (k0_off18 c) S1024x1024.size (k0_off18_inb c)) (fun _ => rfl)) rfl (s := semOf (semA 2) 3) rfl) $$ [B3 HO]
  · isplitr; · iexact HC
    isplitl [B3]; · iexact B3
    iexact HO
  iintro ⟨B3, HO⟩
  iapply (rvb_step (P In) (R In) K c 4 0 (above_zero 3) (dst := oM.slice (Rect.unit (s := S8192x1024) (k0_off18 c) S1024x1024.size (k0_off18_inb c)) (fun _ => rfl)) rfl (s := semOf (semA 2) 4) rfl) $$ [B4 HO]
  · isplitr; · iexact HC
    isplitl [B4]; · iexact B4
    iexact HO
  iintro ⟨B4, HO⟩
  iapply (rvb_step (P In) (R In) K c 5 0 (above_zero 3) (dst := oM.slice (Rect.unit (s := S8192x1024) (k0_off18 c) S1024x1024.size (k0_off18_inb c)) (fun _ => rfl)) rfl (s := semOf (semA 2) 5) rfl) $$ [B5 HO]
  · isplitr; · iexact HC
    isplitl [B5]; · iexact B5
    iexact HO
  iintro ⟨B5, HO⟩
  iapply (rvb_step (P In) (R In) K c 6 0 (above_zero 3) (dst := oM.slice (Rect.unit (s := S8192x1024) (k0_off18 c) S1024x1024.size (k0_off18_inb c)) (fun _ => rfl)) rfl (s := semOf (semA 2) 6) rfl) $$ [B6 HO]
  · isplitr; · iexact HC
    isplitl [B6]; · iexact B6
    iexact HO
  iintro ⟨B6, HO⟩
  iapply (ret_step c)
  iapply Hk
  isplitr [HO]
  · isplitl [B1]; · iexact B1
    isplitl [B2]; · iexact B2
    isplitl [B3]; · iexact B3
    isplitl [B4]; · iexact B4
    isplitl [B5]; · iexact B5
    isplitl [B6]; · iexact B6
    iempintro
  iexact HO

end Parts

end Cert.Mesh

end
-- ==== Proof.Run.lean ====
/-
  The kernel's whole body on one device: what it takes, how its parts follow one another, and what it leaves.
-/
module

public import proofs.«01_k».proof.Proof.Parts

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Run

variable (In : Dev nD → Ins F) (K : Dev nD × Cx → ℕ) (c : Dev nD)

omit [FloatOps F] in
theorem both {A B : sProp 𝕄} (h : A ⊢ B) (h' : B ⊢ A) : A = B := equiv_iff.mp ⟨h, h'⟩

omit [FloatOps F] in
theorem mono7 {Φ Ψ : Fin 7 → sProp 𝕄} (h : ∀ o, Φ o ⊢ Ψ o) : bigSep Finset.univ Φ ⊢ bigSep Finset.univ Ψ := bigSep_mono fun o _ => h o

omit [FloatOps F] in
theorem all_append {α : Type} (l l' : List α) (Φ : α → sProp 𝕄) : all (l ++ l') Φ = iprop(all l Φ ∗ all l' Φ) := by
  induction l with
  | nil => exact (equiv_iff.mp BI.emp_sep).symm
  | cons a l ih =>
    rw [List.cons_append, all_cons, all_cons, ih]
    refine both ?_ ?_
    · iintro ⟨H, H', H''⟩
      isplitl [H H']
      · isplitl [H]; · iexact H
        iexact H'
      iexact H''
    · iintro ⟨⟨H, H'⟩, H''⟩
      isplitl [H]; · iexact H
      isplitl [H']; · iexact H'
      iexact H''

omit [FloatOps F] in
/-- A family over the offsets, read backwards. -/
theorem backwards (Φ : Fin 7 → sProp 𝕄) : bigSep Finset.univ (fun o : Fin 7 => Φ o.rev) = bigSep Finset.univ Φ :=
  (bigSep_univ_equiv Fin.revPerm Φ).symm

/-- The slots and output blocks of a device, contents unsaid. -/
def slots : sProp 𝕄 := (bigSep Finset.univ fun o : Fin 7 => iprop(∃ X, own (F := F) c (slotM o) X))
def outs : sProp 𝕄 := bigSep Finset.univ fun j : Dev nD => iprop(∃ X, own (F := F) c (outM j) X)

/-- The rights to pay that device `c` holds. -/
def toks : sProp 𝕄 :=
  iprop((bigSep Finset.univ fun o : Fin 7 => (dutyTok ER (bar (pr c o)) 0 o.rev : sProp 𝕄))
    ∗ (bigSep Finset.univ fun o : Fin 7 => (dutyTok ER (snd c o) 0 0 : sProp 𝕄))
    ∗ (bigSep Finset.univ fun o : Fin 7 => (dutyTok ER (snd c o) 1 0 : sProp 𝕄))
    ∗ (bigSep Finset.univ fun o : Fin 7 => (dutyTok ER (rva (pr c o) o) 0 0 : sProp 𝕄))
    ∗ (bigSep Finset.univ fun o : Fin 7 => (dutyTok ER (rvb (pr c o) o) 0 0 : sProp 𝕄)))
/-- Where device `c`'s own cells are at the start. -/
def poss : sProp 𝕄 :=
  iprop(atPos ER (bar c) 0 ∅ 0 ∗ (bigSep Finset.univ fun o : Fin 7 => (atPos ER (snd c o) 0 ∅ 0 : sProp 𝕄))
    ∗ (bigSep Finset.univ fun o : Fin 7 => (atPos ER (rva c o) 0 ∅ 0 : sProp 𝕄)) ∗ (bigSep Finset.univ fun o : Fin 7 => (atPos ER (rvb c o) 0 ∅ 0 : sProp 𝕄)))
/-- What others will pay device `c`. -/
def creds : sProp 𝕄 :=
  iprop(cred (tallyAt (bar c) () 7) ∗ (bigSep Finset.univ fun o : Fin 7 => (cred (tallyAt (rva c o) () N) : sProp 𝕄))
    ∗ (bigSep Finset.univ fun o : Fin 7 => (cred (tallyAt (rvb c o) () N) : sProp 𝕄)))

/-- What device `c` owes after the signals, -/
def OB : CellTallies nD τ sig Unit := debt [0, 1, 2, 3, 4, 5, 6] (dB c) 0
def OA : CellTallies nD τ sig Unit := debt [0, 1, 2, 3, 4, 5, 6, 7] (dA c) (OB c)
/-- and at the start. -/
def O₀ : CellTallies nD τ sig Unit := debt [0, 1, 2, 3, 4] (dBar c) (debt [5, 6] (dBar c) (OA c))

theorem OB_eq : OB c = dB c 0 + debt [1, 2, 3] (dB c) (debt [4, 5, 6] (dB c) 0) := rfl
theorem OA_eq : OA c = dA c 0 + (dA c 1 + (dA c 2 + (dA c 3 + (dA c 4 + (dA c 5 + (dA c 6 + (dA c 7 + OB c))))))) := rfl

theorem above_dBs (l : List (Fin 7)) : Above 2 (debt l (dB c) 0) := above_debt l _ (above_dB c) (above_zero 2)
theorem above_dAs (l : List (Dev nD)) : Above 1 (debt l (dA c) (OB c)) := above_debt l _ (above_dA c) (above_mono (by omega) (above_dBs c _))

/-- The signals' needs. -/
theorem to_sig : iprop(slots c ∗ (bigSep Finset.univ fun o : Fin 7 => (dutyTok ER (bar (pr c o)) 0 o.rev : sProp 𝕄)))
    ⊢ iprop(all [0, 1, 2, 3, 4] (TSig (F := F) c) ∗ all [5, 6] (TSig (F := F) c)) := by
  unfold slots
  rw [← backwards fun o => iprop(∃ X, own (F := F) c (slotM o) X), ← all_append]
  refine (Entails.of_eq (bigSep_sep' Finset.univ (fun o : Fin 7 => iprop(∃ X, own (F := F) c (slotM o.rev) X)) fun o => (dutyTok ER (bar (pr c o)) 0 o.rev : sProp 𝕄)).symm).trans ?_
  exact Entails.of_eq (all7 (TSig (F := F) c))

/-- The chunks' needs. -/
theorem to_chunks : iprop(outs c ∗ (bigSep Finset.univ fun o => barPay (F := F) c o)
      ∗ (bigSep Finset.univ fun o : Fin 7 => (dutyTok ER (snd c o) 0 0 : sProp 𝕄)) ∗ (bigSep Finset.univ fun o : Fin 7 => (dutyTok ER (rva (pr c o) o) 0 0 : sProp 𝕄)))
    ⊢ all [0, 1, 2, 3, 4, 5, 6, 7] (TA (F := F) c) := by
  unfold outs barPay
  rw [← bigSep_sep' Finset.univ (fun o : Fin 7 => (dutyTok ER (snd c o) 0 0 : sProp 𝕄)), ← bigSep_sep' Finset.univ (fun o : Fin 7 => iprop(∃ X, own (F := F) (pr c o) (slotM o) X)),
    around c fun j o => iprop((∃ X, own (F := F) j (slotM o) X) ∗ dutyTok ER (snd c o) 0 0 ∗ dutyTok ER (rva j o) 0 0), ← bigSep_sep', ← all8]
  exact .rfl

/-- Credits and positions pair up. -/
theorem to_waits {Φ Ψ Θ : Fin 7 → sProp 𝕄} (h : ∀ o, Θ o = iprop(Φ o ∗ Ψ o)) : iprop(bigSep Finset.univ Φ ∗ bigSep Finset.univ Ψ) ⊢ all [0, 1, 2, 3, 4, 5, 6] Θ := by
  rw [← bigSep_sep', ← all7]
  exact Entails.of_eq (bigSep_congr fun o _ => (h o).symm)

/-- What the landings leave: the slots, the right to write at the peers, the positions. -/
theorem of_landings : all [0, 1, 2, 3, 4, 5, 6] (DR (P In) c)
    ⊢ iprop(slots c ∗ (bigSep Finset.univ fun o : Fin 7 => iprop(∃ X, own (F := F) (pr c o) (outM c) X)) ∗ (bigSep Finset.univ fun o : Fin 7 => (atPos ER (rva c o) 1 ∅ 0 : sProp 𝕄))) := by
  unfold slots
  rw [← all7, ← backwards fun o => iprop(∃ X, own (F := F) (pr c o) (outM c) X), ← bigSep_sep', ← bigSep_sep']
  refine mono7 fun o => ?_
  unfold DR rvaPay
  iintro ⟨⟨Hs, Ho⟩, Ha⟩
  isplitl [Hs]; · iexists _; iexact Hs
  isplitl [Ho]; · iexists _; iexact Ho
  iexact Ha

/-- The share of the sum's buffer each send reads. -/
abbrev tok7 (o : Fin 7) : sProp 𝕄 := owns (c : Thread nD τ) aM (Transfers.shareTok fullShare 7 o) (R In c)

theorem split_sum : own c aM (R In c) ⊢ iprop(owns (c : Thread nD τ) aM (Transfers.shareDrop fullShare 7) (R In c) ∗ bigSep Finset.univ (tok7 In c)) := by
  unfold own tok7
  simp only [owns_whole_eq]
  iintro ⟨%f, %hf, H⟩
  subst hf
  ihave H := (Transfers.pointsTo_toks_split fullShare 7) $$ H
  icases H with ⟨H₁, H₂⟩
  isplitl [H₁]
  · iexists _; isplitr; · ipureintro; rfl
    iexact H₁
  iapply (mono7 fun o => ?_) $$ H₂
  iintro H
  iexists _; isplitr; · ipureintro; rfl
  iexact H

/-- A last send's needs, but for the round its own cell has reached. -/
def TB' (o : Fin 7) : sProp 𝕄 :=
  iprop((∃ X, own (F := F) (pr c o) (outM c) X) ∗ tok7 In c o ∗ dutyTok ER (snd c o) 1 0 ∗ dutyTok ER (rvb (pr c o) o) 0 0)

theorem to_sends : iprop((bigSep Finset.univ fun o : Fin 7 => iprop(∃ X, own (F := F) (pr c o) (outM c) X)) ∗ bigSep Finset.univ (tok7 In c)
      ∗ (bigSep Finset.univ fun o : Fin 7 => (dutyTok ER (snd c o) 1 0 : sProp 𝕄)) ∗ (bigSep Finset.univ fun o : Fin 7 => (dutyTok ER (rvb (pr c o) o) 0 0 : sProp 𝕄)))
    ⊢ all [0, 1, 2, 3, 4, 5, 6] (TB' In c) := by
  rw [← bigSep_sep', ← bigSep_sep', ← bigSep_sep', ← all7]
  exact .rfl

/-- The wait on the first send supplies the round. -/
theorem to_send (o : Fin 7) : iprop(TB' In c o ∗ DS (F := F) c o) ⊢ iprop(TB (R In) c o ∗ (atPos ER (snd c o) 1 ∅ 0 : sProp 𝕄)) := by
  unfold TB' DS TB
  iintro ⟨⟨Ho, Ht, Hd, Hd'⟩, Ha, Hr⟩
  isplitr [Ha]
  · isplitl [Ho]; · iexact Ho
    isplitl [Ht]; · iexact Ht
    isplitl [Hd]; · iexact Hd
    isplitl [Hr]; · iexact Hr
    iexact Hd'
  iexact Ha

theorem join_sum : iprop(owns (c : Thread nD τ) aM (Transfers.shareDrop fullShare 7) (R In c) ∗ bigSep Finset.univ (tok7 In c)) ⊢ own c aM (R In c) := by
  have hw : ∀ q, (owns (c : Thread nD τ) aM q (R In c) : sProp 𝕄) = ((aM.view.loc (c : Thread nD τ)) ↦{q} (R In c)) := fun q => by
    refine (owns_whole_eq _ _ _ _).trans (both ?_ ?_)
    · iintro ⟨%f, %hf, H⟩; subst hf; iexact H
    · iintro H; iexists _; isplitr; · ipureintro; rfl
      iexact H
  unfold own tok7
  simp only [hw]
  exact Transfers.pointsTo_toks_join fullShare 7

/-- After every send has been waited for, the sum's buffer is whole again. -/
theorem of_returned : iprop(owns (c : Thread nD τ) aM (Transfers.shareDrop fullShare 7) (R In c) ∗ all [0, 1, 2, 3, 4, 5, 6] (DT (R In) c))
    ⊢ iprop(own c aM (R In c) ∗ (bigSep Finset.univ fun o : Fin 7 => (atPos ER (snd c o) 2 ∅ 0 : sProp 𝕄))) := by
  rw [← all7]
  unfold DT sndPay
  rw [bigSep_sep']
  iintro ⟨H, H', H''⟩
  isplitl [H H']
  · iapply join_sum
    isplitl [H]; · iexact H
    iexact H'
  iexact H''

/-- Every output block holds its device's sum. -/
theorem of_filled : iprop(own c (outM c) (R In c) ∗ all [0, 1, 2, 3, 4, 5, 6] (DB (R In) c))
    ⊢ iprop((bigSep Finset.univ fun j : Dev nD => own c (outM j) (R In j)) ∗ (bigSep Finset.univ fun o : Fin 7 => (atPos ER (rvb c o) 1 ∅ 0 : sProp 𝕄))) := by
  rw [← all7]
  unfold DB rvbPay
  rw [bigSep_sep', ← backwards fun o => own c (outM (pr c o.rev)) (R In (pr c o.rev))]
  simp only [Fin.rev_rev]
  have h := around_at c (own c (outM c) (R In c)) fun j _ => own c (outM j) (R In j)
  have h' : (fun j : Dev nD => if j = c then own c (outM c) (R In c) else own c (outM j) (R In j)) = fun j => own c (outM j) (R In j) :=
    funext fun j => by split <;> simp_all
  rw [h'] at h
  rw [h]
  iintro ⟨H, H', H''⟩
  isplitl [H H']
  · isplitl [H]; · iexact H
    iexact H'
  iexact H''

/-- The cells of one kind end with the count zero. -/
theorem close_all (k : Fin 7 → Cx) (r : ℕ) (hr : ∀ o, (∀ o', k o ≠ some (0, o')) ∧ 1 ≤ r ∨ 2 ≤ r) :
    iprop(cx In K ∗ bigSep Finset.univ fun o : Fin 7 => (atPos ER (cell c (k o)) r ∅ 0 : sProp 𝕄)) ⊢ (iprop(|={Set.univ}=> bigSep Finset.univ fun o : Fin 7 => (semVal (cell c (k o)) 0 : sProp 𝕄)) : sProp 𝕄) :=
  (bigSep_with_persistent fun o _ => close_step (P In) (R In) K c (k o) r (hr o)).trans (bigSep_fupd _ _)

end Run

end Cert.Mesh

end
-- ==== Proof.Chain.lean ====
/-
  The parts of the kernel's body, one after another.
-/
module

public import proofs.«01_k».proof.Proof.Run

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Chain

variable (In : Dev nD → Ins F) (K : Dev nD × Cx → ℕ) (c : Dev nD)
variable {α β : Type} {Q : α → sProp (MT nD τ sig Unit (Elt F) ℕ UU ℕ)}

/-- One program after another. -/
theorem bind_step {p : Prog (TpuEff nD τ sig (Elt F) Λ₀ .tc) β} {k : β → Prog (TpuEff nD τ sig (Elt F) Λ₀ .tc) α} :
    run c p (fun a => run c (k a) Q) ⊢ run c (p >>= k) Q := by
  rw [show run c (p >>= k) Q = run c p (fun a => run c (k a) Q) from wp_bind ..]

/-- What the body takes on device `c`. -/
def entry : sProp 𝕄 :=
  iprop(ins In c ∗ outs (F := F) c ∗ slots (F := F) c ∗ (∃ X, own (F := F) c aM X) ∗ toks (F := F) c ∗ poss (F := F) c ∗ creds (F := F) c ∗ ow c (O₀ c))

/-- What it has before the last two waits. -/
def mid : sProp 𝕄 :=
  iprop(ins In c ∗ slots (F := F) c ∗ own c (outM c) (R In c) ∗ all [0, 1, 2, 3, 4, 5, 6] (DB (R In) c)
    ∗ owns (c : Thread nD τ) aM (Transfers.shareDrop fullShare 7) (R In c) ∗ all [0, 1, 2, 3, 4] (DT (R In) c) ∗ all [5, 6] (WT (F := F) c)
    ∗ atPos ER (bar c) 1 ∅ 0 ∗ (bigSep Finset.univ fun o : Fin 7 => (atPos ER (rva c o) 1 ∅ 0 : sProp 𝕄)) ∗ ow c 0)

set_option maxHeartbeats 4000000 in
set_option maxRecDepth 100000 in
theorem part18_run {Q : Dev nD → sProp (MT nD τ sig Unit (Elt F) ℕ UU ℕ)} :
    iprop(cx In K ∗ entry In c) ⊢ iprop((mid In c -∗ Q c) -∗ run c (k0_part18 (F := F) xM (Memref.isWhole_whole _) kM (Memref.isWhole_whole _) wM (Memref.isWhole_whole _) oM (Memref.isWhole_whole _) rM (Memref.isWhole_whole _) aM (Memref.isWhole_whole _) cc0_scratch2 cc0_scratch3 cc0_scratch4) Q) := by
  rw [k0_part18_eq_skeleton]; unfold k0_part18_skel entry toks poss creds O₀
  have hT := to_chunks (F := F) c
  have hWR := to_waits (Φ := fun o => (cred (tallyAt (rva c o) () N) : sProp 𝕄)) (Ψ := fun o => (atPos ER (rva c o) 0 ∅ 0 : sProp 𝕄)) (Θ := WR (F := F) c) fun o => rfl
  have hWS := to_waits (Φ := fun o => (cred (tallyAt (snd c o) () N) : sProp 𝕄)) (Ψ := fun o => (atPos ER (snd c o) 0 ∅ 0 : sProp 𝕄)) (Θ := WS (F := F) c) fun o => rfl
  have p10 := fun O hO v2 Q => part10_run (Q := Q) In K c O hO v2
  have p11 := fun O hO v2 Q => part11_run (Q := Q) In K c O hO v2
  have p12 := fun O hO v2 Q => part12_run (Q := Q) In K c O hO v2
  have p13 := fun O hO v2 v Q => part13_run (Q := Q) In K c O hO v2 v
  have p14 := fun O O' hO' hO v2 Q => part14_run (Q := Q) In K c O O' hO' hO v2
  have p15 := fun O v2 Q => part15_run (Q := Q) In K c O v2
  have p16 := fun v2 v v' Q => part16_run (Q := Q) In K c v2 v v'
  have p17 := fun a b d e f Q => part17_run (Q := Q) In K c a b d e f
  have hR := of_landings In c
  have hWB := to_waits (Φ := fun o => (cred (tallyAt (rvb c o) () N) : sProp 𝕄)) (Ψ := fun o => (atPos ER (rvb c o) 0 ∅ 0 : sProp 𝕄)) (Θ := WB (F := F) c) fun o => rfl
  have hTB := to_sends In c
  simp only [all_cons, all_nil] at hT hWR hWS hWB hTB p10 p11 p12 p13 p14 p15 p16 p17 hR
  have h1 := above_dAs c [0, 1, 2, 3, 4, 5, 6, 7]
  rw [show debt [0, 1, 2, 3, 4, 5, 6, 7] (dA c) (OB c) = OA c from rfl, OA_eq] at h1
  rw [OA_eq]
  iintro ⟨#HC, Hi, Ho, Hs, Hr, ⟨T1, T2, T3, T4, T5⟩, ⟨Pb, Ps, Pa, Pr⟩, ⟨Cb, Ca, Cr⟩, HO⟩ Hk
  ihave HS := (to_sig (F := F) c) $$ [Hs T1]
  · isplitl [Hs]; · iexact Hs
    iexact T1
  icases HS with ⟨HS, HS'⟩
  iapply (bind_step c)
  iapply (part1_run In K c (debt [5, 6] (dBar c) _)) $$ [HS HO]
  · isplitr; · iexact HC
    isplitl [HS]; · iexact HS
    iexact HO
  iintro %v2 %v24 %c8 HO
  iapply (bind_step c)
  iapply (part2_run In K c _ h1) $$ [HS' Cb Pb Hi HO]
  · isplitr; · iexact HC
    isplitl [HS']; · iexact HS'
    isplitl [Cb]; · iexact Cb
    isplitl [Pb]; · iexact Pb
    isplitl [Hi]; · iexact Hi
    iexact HO
  iintro ⟨HO, Pb, Hb, Hi⟩
  ihave HT := hT $$ [Ho Hb T2 T4]
  · isplitl [Ho]; · iexact Ho
    isplitl [Hb]; · iexact Hb
    isplitl [T2]; · iexact T2
    iexact T4
  icases HT with ⟨A0, A1, A2, A3, A4, A5, A6, A7, -⟩
  iapply (bind_step c)
  iapply (part3_run In K c _) $$ [Hi A0 HO]
  · isplitr; · iexact HC
    isplitl [Hi]; · iexact Hi
    isplitl [A0]; · iexact A0
    iexact HO
  iintro ⟨Hi, D0, HO⟩
  iapply (bind_step c)
  iapply (part4_run In K c _) $$ [Hi A1 HO]
  · isplitr; · iexact HC
    isplitl [Hi]; · iexact Hi
    isplitl [A1]; · iexact A1
    iexact HO
  iintro ⟨Hi, D1, HO⟩
  iapply (bind_step c)
  iapply (part5_run In K c _) $$ [Hi A2 HO]
  · isplitr; · iexact HC
    isplitl [Hi]; · iexact Hi
    isplitl [A2]; · iexact A2
    iexact HO
  iintro ⟨Hi, D2, HO⟩
  iapply (bind_step c)
  iapply (part6_run In K c _) $$ [Hi A3 HO]
  · isplitr; · iexact HC
    isplitl [Hi]; · iexact Hi
    isplitl [A3]; · iexact A3
    iexact HO
  iintro ⟨Hi, D3, HO⟩
  iapply (bind_step c)
  iapply (part7_run In K c _) $$ [Hi A4 HO]
  · isplitr; · iexact HC
    isplitl [Hi]; · iexact Hi
    isplitl [A4]; · iexact A4
    iexact HO
  iintro ⟨Hi, D4, HO⟩
  iapply (bind_step c)
  iapply (part8_run In K c _) $$ [Hi A5 HO]
  · isplitr; · iexact HC
    isplitl [Hi]; · iexact Hi
    isplitl [A5]; · iexact A5
    iexact HO
  iintro ⟨Hi, D5, HO⟩
  iapply (bind_step c)
  iapply (part9_run In K c _) $$ [Hi A6 HO]
  · isplitr; · iexact HC
    isplitl [Hi]; · iexact Hi
    isplitl [A6]; · iexact A6
    iexact HO
  iintro ⟨Hi, D6, HO⟩
  ihave HW := hWR $$ [Ca Pa]
  · isplitl [Ca]; · iexact Ca
    iexact Pa
  icases HW with ⟨W0, W1, W2, W3, W4, W5, W6, -⟩
  iapply (bind_step c)
  iapply (p10 (OB c) (above_dBs c _) _ _) $$ [A7 D0 D1 D2 D3 D4 D5 D6 W0 HO]
  · isplitr; · iexact HC
    isplitl [A7]; · iexact A7
    isplitl [D0 D1 D2 D3 D4 D5 D6]
    · isplitl [D6]; · iexact D6
      isplitl [D5]; · iexact D5
      isplitl [D4]; · iexact D4
      isplitl [D3]; · iexact D3
      isplitl [D2]; · iexact D2
      isplitl [D1]; · iexact D1
      isplitl [D0]; · iexact D0
      iempintro
    isplitl [W0]; · iexact W0
    iexact HO
  iintro ⟨Ho, Cs, R0, HO⟩
  iapply (bind_step c)
  iapply (p11 (OB c) (above_dBs c _) _ _) $$ [W1 W2 W3 HO]
  · isplitr; · iexact HC
    isplitl [W1 W2 W3]
    · isplitl [W1]; · iexact W1
      isplitl [W2]; · iexact W2
      isplitl [W3]; · iexact W3
      iempintro
    iexact HO
  iintro ⟨⟨R1, R2, R3, -⟩, HO⟩
  iapply (bind_step c)
  iapply (p12 (OB c) (above_dBs c _) _ _) $$ [W4 W5 W6 Hr HO]
  · isplitr; · iexact HC
    isplitl [W4 W5 W6]
    · isplitl [W4]; · iexact W4
      isplitl [W5]; · iexact W5
      isplitl [W6]; · iexact W6
      iempintro
    isplitl [Hr]; · iexact Hr
    iexact HO
  iintro %vr ⟨⟨R4, R5, R6, -⟩, Hr, HO⟩
  ihave HR := hR $$ [R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    isplitl [R6]; · iexact R6
    iempintro
  icases HR with ⟨Hs, Hw, Pa⟩
  ihave HW := hWS $$ [Cs Ps]
  · isplitl [Cs]; · iexact Cs
    iexact Ps
  icases HW with ⟨W0, W1, W2, W3, W4, W5, W6, -⟩
  iapply (bind_step c)
  iapply (p13 (OB c) (above_mono (by omega) (above_dBs c _)) _ _ _) $$ [Hr Ho W0 W1 W2 W3 HO]
  · isplitr; · iexact HC
    isplitl [Hr]; · iexact Hr
    isplitl [Ho]; · iexact Ho
    isplitl [W0 W1 W2 W3]
    · isplitl [W0]; · iexact W0
      isplitl [W1]; · iexact W1
      isplitl [W2]; · iexact W2
      isplitl [W3]; · iexact W3
      iempintro
    iexact HO
  iintro ⟨Hr, Ho, ⟨S0, S1, S2, S3, -⟩, HO⟩
  ihave HF := (split_sum In c) $$ Hr
  icases HF with ⟨Hd, Hf⟩
  ihave HT := hTB $$ [Hw Hf T3 T5]
  · isplitl [Hw]; · iexact Hw
    isplitl [Hf]; · iexact Hf
    isplitl [T3]; · iexact T3
    iexact T5
  icases HT with ⟨B0, B1, B2, B3, B4, B5, B6, -⟩
  ihave HT := (to_send In c 0) $$ [B0 S0]
  · isplitl [B0]; · iexact B0
    iexact S0
  icases HT with ⟨B0, S0⟩
  iapply (bind_step c)
  iapply (p14 _ (OB c) (OB_eq c) (above_mono (by omega) (above_dBs c _)) _ _) $$ [W4 W5 W6 B0 HO]
  · isplitr; · iexact HC
    isplitl [W4 W5 W6]
    · isplitl [W4]; · iexact W4
      isplitl [W5]; · iexact W5
      isplitl [W6]; · iexact W6
      iempintro
    isplitl [B0]; · iexact B0
    iexact HO
  iintro %u %u' ⟨⟨S4, S5, S6, -⟩, C0, HO⟩
  ihave HT := (to_send In c 1) $$ [B1 S1]
  · isplitl [B1]; · iexact B1
    iexact S1
  icases HT with ⟨B1, S1⟩
  ihave HT := (to_send In c 2) $$ [B2 S2]
  · isplitl [B2]; · iexact B2
    iexact S2
  icases HT with ⟨B2, S2⟩
  ihave HT := (to_send In c 3) $$ [B3 S3]
  · isplitl [B3]; · iexact B3
    iexact S3
  icases HT with ⟨B3, S3⟩
  ihave HT := (to_send In c 4) $$ [B4 S4]
  · isplitl [B4]; · iexact B4
    iexact S4
  icases HT with ⟨B4, S4⟩
  ihave HT := (to_send In c 5) $$ [B5 S5]
  · isplitl [B5]; · iexact B5
    iexact S5
  icases HT with ⟨B5, S5⟩
  ihave HT := (to_send In c 6) $$ [B6 S6]
  · isplitl [B6]; · iexact B6
    iexact S6
  icases HT with ⟨B6, S6⟩
  ihave HW := hWB $$ [Cr Pr]
  · isplitl [Cr]; · iexact Cr
    iexact Pr
  icases HW with ⟨W0, W1, W2, W3, W4, W5, W6, -⟩
  iapply (bind_step c)
  iapply (p15 _ _ _) $$ [B1 B2 B3 HO]
  · isplitr; · iexact HC
    isplitl [B1 B2 B3]
    · isplitl [B1]; · iexact B1
      isplitl [B2]; · iexact B2
      isplitl [B3]; · iexact B3
      iempintro
    iexact HO
  iintro %w %w' %w'' ⟨⟨C1, C2, C3, -⟩, HO⟩
  iapply (bind_step c)
  iapply (p16 _ _ _ _) $$ [B4 B5 B6 W0 HO]
  · isplitr; · iexact HC
    isplitl [B4 B5 B6]
    · isplitl [B4]; · iexact B4
      isplitl [B5]; · iexact B5
      isplitl [B6]; · iexact B6
      iempintro
    isplitl [W0]; · iexact W0
    iexact HO
  iintro %z %z' ⟨⟨C4, C5, C6, -⟩, B0, HO⟩
  iapply (bind_step c)
  iapply (p17 _ _ _ _ _ _) $$ [W1 W2 W3 W4 W5 W6 HO]
  · isplitr; · iexact HC
    isplitl [W1 W2 W3 W4 W5 W6]
    · isplitl [W1]; · iexact W1
      isplitl [W2]; · iexact W2
      isplitl [W3]; · iexact W3
      isplitl [W4]; · iexact W4
      isplitl [W5]; · iexact W5
      isplitl [W6]; · iexact W6
      iempintro
    iexact HO
  iintro ⟨⟨B1, B2, B3, B4, B5, B6, -⟩, HO⟩
  simp only [Prog.lift, Prog.bind_op, Prog.bind_ret, Prog.pure_eq_ret]
  iapply (snd1_step (P In) (R In) K c 0 0 (above_zero 0) (dst := aM) rfl (s := semOf (semA 0) 0) rfl) $$ [C0 S0 HO]
  · isplitr; · iexact HC
    isplitr [HO]
    · unfold WT
      isplitl [C0]; · iexact C0
      iexact S0
    iexact HO
  iintro ⟨S0, HO⟩
  iapply (snd1_step (P In) (R In) K c 1 0 (above_zero 0) (dst := aM) rfl (s := semOf (semA 0) 1) rfl) $$ [C1 S1 HO]
  · isplitr; · iexact HC
    isplitr [HO]
    · unfold WT
      isplitl [C1]; · iexact C1
      iexact S1
    iexact HO
  iintro ⟨S1, HO⟩
  iapply (snd1_step (P In) (R In) K c 2 0 (above_zero 0) (dst := aM) rfl (s := semOf (semA 0) 2) rfl) $$ [C2 S2 HO]
  · isplitr; · iexact HC
    isplitr [HO]
    · unfold WT
      isplitl [C2]; · iexact C2
      iexact S2
    iexact HO
  iintro ⟨S2, HO⟩
  iapply (snd1_step (P In) (R In) K c 3 0 (above_zero 0) (dst := aM) rfl (s := semOf (semA 0) 3) rfl) $$ [C3 S3 HO]
  · isplitr; · iexact HC
    isplitr [HO]
    · unfold WT
      isplitl [C3]; · iexact C3
      iexact S3
    iexact HO
  iintro ⟨S3, HO⟩
  iapply (snd1_step (P In) (R In) K c 4 0 (above_zero 0) (dst := aM) rfl (s := semOf (semA 0) 4) rfl) $$ [C4 S4 HO]
  · isplitr; · iexact HC
    isplitr [HO]
    · unfold WT
      isplitl [C4]; · iexact C4
      iexact S4
    iexact HO
  iintro ⟨S4, HO⟩
  iapply (ret_step c)
  iapply Hk
  unfold mid
  simp only [all_cons, all_nil]
  isplitl [Hi]; · iexact Hi
  isplitl [Hs]; · iexact Hs
  isplitl [Ho]; · iexact Ho
  isplitl [B0 B1 B2 B3 B4 B5 B6]
  · isplitl [B0]; · iexact B0
    isplitl [B1]; · iexact B1
    isplitl [B2]; · iexact B2
    isplitl [B3]; · iexact B3
    isplitl [B4]; · iexact B4
    isplitl [B5]; · iexact B5
    isplitl [B6]; · iexact B6
    iempintro
  isplitl [Hd]; · iexact Hd
  isplitl [S0 S1 S2 S3 S4]
  · isplitl [S0]; · iexact S0
    isplitl [S1]; · iexact S1
    isplitl [S2]; · iexact S2
    isplitl [S3]; · iexact S3
    isplitl [S4]; · iexact S4
    iempintro
  isplitl [C5 S5 C6 S6]
  · unfold WT
    isplitl [C5 S5]
    · isplitl [C5]; · iexact C5
      iexact S5
    isplitl [C6 S6]
    · isplitl [C6]; · iexact C6
      iexact S6
    iempintro
  isplitl [Pb]; · iexact Pb
  isplitl [Pa]; · iexact Pa
  iexact HO

omit [FloatOps F] in
theorem all_five (Φ : Fin 7 → sProp 𝕄) : all [0, 1, 2, 3, 4] Φ = iprop(Φ 0 ∗ Φ 1 ∗ Φ 2 ∗ Φ 3 ∗ Φ 4 ∗ emp) := by simp only [all_cons, all_nil]
omit [FloatOps F] in
theorem all_two (Φ : Fin 7 → sProp 𝕄) : all [5, 6] Φ = iprop(Φ 5 ∗ Φ 6 ∗ emp) := by simp only [all_cons, all_nil]

/-- A return, an update before it. -/
theorem ret_upd {v : α} : (iprop(|={Set.univ}=> Q v) : sProp 𝕄) ⊢ run c (.ret v) Q := by
  rw [show run c (.ret v) Q = _ from wp_ret ..]

/-- What the body leaves on device `c`: every output block holds its device's sum, and every count is zero. -/
def final : sProp 𝕄 :=
  iprop(ins In c ∗ (bigSep Finset.univ fun j : Dev nD => own c (outM j) (R In j)) ∗ slots (F := F) c ∗ (∃ X, own (F := F) c aM X)
    ∗ (semVal (bar c) 0 ∗ (bigSep Finset.univ fun o : Fin 7 => (semVal (snd c o) 0 : sProp 𝕄)) ∗ (bigSep Finset.univ fun o : Fin 7 => (semVal (rva c o) 0 : sProp 𝕄)) ∗ (bigSep Finset.univ fun o : Fin 7 => (semVal (rvb c o) 0 : sProp 𝕄)))
    ∗ ow c 0)

set_option maxHeartbeats 4000000 in
set_option maxRecDepth 100000 in
/-- The body on device `c`. -/
theorem body_run {Q : PUnit → sProp (MT nD τ sig Unit (Elt F) ℕ UU ℕ)} :
    iprop(cx In K ∗ entry In c) ⊢ iprop((final In c -∗ Q ⟨⟩) -∗ run c (cc0__body (F := F) xM (Memref.isWhole_whole _) kM (Memref.isWhole_whole _) wM (Memref.isWhole_whole _) oM (Memref.isWhole_whole _) rM (Memref.isWhole_whole _) aM (Memref.isWhole_whole _) cc0_scratch2 cc0_scratch3 cc0_scratch4) Q) := by
  rw [cc0__body_eq_skeleton]; unfold cc0__body_skel
  have hb := close_step (P In) (R In) K c none 1 (Or.inl ⟨fun _ => by simp, le_refl _⟩)
  have hs := close_all In K c (fun o => some (0, o)) 2 fun _ => Or.inr (le_refl _)
  have ha := close_all In K c (fun o => some (1, o)) 1 fun _ => Or.inl ⟨fun _ => by simp, le_refl _⟩
  have hr := close_all In K c (fun o => some (2, o)) 1 fun _ => Or.inl ⟨fun _ => by simp, le_refl _⟩
  have hT := of_returned In c
  simp only [all_cons, all_nil] at hT
  iintro ⟨#HC, He⟩ Hk
  iapply (bind_step c)
  iapply (part18_run In K c) $$ [He]
  · isplitr; · iexact HC
    iexact He
  unfold mid
  simp only [Prog.lift, Prog.bind_op, Prog.bind_ret, Prog.pure_eq_ret, all_five, all_two]
  iintro ⟨Hi, Hs, Ho, B, Hd, ⟨S0, S1, S2, S3, S4, -⟩, ⟨S5, S6, -⟩, Pb, Pa, HO⟩
  iapply (snd1_step (P In) (R In) K c 5 0 (above_zero 0) (dst := aM) rfl (s := semOf (semA 0) 5) rfl) $$ [S5 HO]
  · isplitr; · iexact HC
    isplitl [S5]; · iexact S5
    iexact HO
  iintro ⟨S5, HO⟩
  iapply (snd1_step (P In) (R In) K c 6 0 (above_zero 0) (dst := aM) rfl (s := semOf (semA 0) 6) rfl) $$ [S6 HO]
  · isplitr; · iexact HC
    isplitl [S6]; · iexact S6
    iexact HO
  iintro ⟨S6, HO⟩
  ihave HT := hT $$ [Hd S0 S1 S2 S3 S4 S5 S6]
  · isplitl [Hd]; · iexact Hd
    isplitl [S0]; · iexact S0
    isplitl [S1]; · iexact S1
    isplitl [S2]; · iexact S2
    isplitl [S3]; · iexact S3
    isplitl [S4]; · iexact S4
    isplitl [S5]; · iexact S5
    isplitl [S6]; · iexact S6
    iempintro
  icases HT with ⟨Hr, Ps⟩
  ihave HB := (of_filled In c) $$ [Ho B]
  · isplitl [Ho]; · iexact Ho
    iexact B
  icases HB with ⟨Ho, Pr⟩
  iapply (ret_upd c)
  imod hb $$ [Pb] with Zb
  · isplitr; · iexact HC
    iexact Pb
  imod hs $$ [Ps] with Zs
  · isplitr; · iexact HC
    iexact Ps
  imod ha $$ [Pa] with Za
  · isplitr; · iexact HC
    iexact Pa
  imod hr $$ [Pr] with Zr
  · isplitr; · iexact HC
    iexact Pr
  imodintro
  iapply Hk
  unfold final
  isplitl [Hi]; · iexact Hi
  isplitl [Ho]; · iexact Ho
  isplitl [Hs]; · iexact Hs
  isplitl [Hr]; · iexists _; iexact Hr
  isplitr [HO]
  · isplitl [Zb]; · iexact Zb
    isplitl [Zs]; · iexact Zs
    isplitl [Za]; · iexact Za
    iexact Zr
  iexact HO

end Chain

end Cert.Mesh

end
-- ==== Proof.Pieces.lean ====
/-
  The kernel's buffers in pieces and whole, and its body between the staged arrays.
-/
module

public import proofs.«01_k».proof.Proof.Chain

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Pieces

variable (In : Dev nD → Ins F) (c : Dev nD)

omit [FloatOps F] in
theorem mono8 {Φ Ψ : Dev nD → sProp 𝕄} (h : ∀ o, Φ o ⊢ Ψ o) : bigSep Finset.univ Φ ⊢ bigSep Finset.univ Ψ := bigSep_mono fun o _ => h o

/-- The blocks of rows are apart and fill the output. -/
theorem out_apart (j j' : Dev nD) (h : j ≠ j') : Disjoint (outR j).set (outR j').set :=
  Finset.disjoint_left.mpr fun i hi hi' => h (Fin.ext (by
    have h0 := Rect.mem_set_unit.mp hi 0
    have h1 := Rect.mem_set_unit.mp hi' 0
    change 1024 * j.val ≤ (i 0).val ∧ (i 0).val < 1024 * j.val + 1024 at h0
    change 1024 * j'.val ≤ (i 0).val ∧ (i 0).val < 1024 * j'.val + 1024 at h1
    omega))
/-- The block a row lies in. -/
def outOf (i : S8192x1024.Idx) : Dev nD := ⟨(i 0).val / 1024, by have := (i 0).isLt; change (i 0).val < 8192 at this; show _ < 8; omega⟩
theorem out_mem (i : S8192x1024.Idx) : i ∈ (outR (outOf i)).set := Rect.mem_set_unit.mpr fun a => by
  match a with
  | 0 => show 1024 * ((i 0).val / 1024) ≤ (i 0).val ∧ (i 0).val < 1024 * ((i 0).val / 1024) + 1024; omega
  | 1 => have := (i 1).isLt; show 0 ≤ (i 1).val ∧ (i 1).val < 0 + 1024; change (i 1).val < 1024 at this; omega
theorem out_cover : (Finset.univ : Finset (Dev nD)).biUnion (fun j => (outR j).set) = Finset.univ :=
  Finset.eq_univ_iff_forall.mpr fun i => Finset.mem_biUnion.mpr ⟨outOf i, Finset.mem_univ _, out_mem i⟩

/-- The slots are apart and fill the landing buffer. -/
theorem slot_mem (o : Fin 7) (i : S7x1024x1024.Idx) : i ∈ (slotR o).set ↔ i 0 = o := by
  rw [Rect.mem_set_unit]
  refine ⟨fun h => Fin.ext ?_, fun h a => ?_⟩
  · have h0 := h 0
    change o.val ≤ (i 0).val ∧ (i 0).val < o.val + 1 at h0
    omega
  · subst h
    match a with
    | 0 => show (i 0).val ≤ (i 0).val ∧ (i 0).val < (i 0).val + 1; omega
    | 1 => have := (i 1).isLt; show 0 ≤ (i 1).val ∧ (i 1).val < 0 + 1024; change (i 1).val < 1024 at this; omega
    | 2 => have := (i 2).isLt; show 0 ≤ (i 2).val ∧ (i 2).val < 0 + 1024; change (i 2).val < 1024 at this; omega
theorem slot_apart (o o' : Fin 7) (h : o ≠ o') : Disjoint (slotR o).set (slotR o').set :=
  Finset.disjoint_left.mpr fun i hi hi' => h (((slot_mem o i).mp hi).symm.trans ((slot_mem o' i).mp hi'))
theorem slot_cover : (Finset.univ : Finset (Fin 7)).biUnion (fun o => (slotR o).set) = Finset.univ :=
  Finset.eq_univ_iff_forall.mpr fun i => Finset.mem_biUnion.mpr ⟨i 0, Finset.mem_univ _, (slot_mem _ i).mpr rfl⟩

omit [FloatOps F] in
theorem slot_set (o : Fin 7) : (slotM o).view.set = (rM.view.slice (slotR o)).set := View.set_reshape _ _

omit [FloatOps F] in
theorem owns_ex {s : Shape} {e : EltTy} (m : Memref sig .tc .vmem s e) :
    iprop(∃ X, own (F := F) c m X) = (iprop(∃ f, m.view.loc (c : Thread nD τ) ↦[m.view.set]{fullShare} f) : sProp 𝕄) := by
  refine both ?_ ?_
  · unfold own owns
    iintro ⟨%X, %f, %hf, H⟩; iexists f; iexact H
  · unfold own owns
    iintro ⟨%f, H⟩; iexists _; iexists f; isplitr; · ipureintro; rfl
    iexact H

/-- The landing buffer whole, at contents `f`, is its slots at `f`. -/
theorem slots_at (f : rM.view.ty.Contents (Elt F)) :
    (rM.view.loc (c : Thread nD τ) ↦{fullShare} f : sProp 𝕄) = bigSep Finset.univ fun o : Fin 7 => ((slotM o).view.loc (c : Thread nD τ) ↦[(slotM o).view.set]{fullShare} f) := by
  have h := pointsTo_rects (Ix := Unit) (Name := ℕ) (U := UU) (Lvl := ℕ) (c : Thread nD τ) rM fullShare slotR (fun _ _ => rfl) slot_apart slot_cover f
  rw [show (rM.view.set : Finset _) = Finset.univ from View.set_whole _] at h
  refine h.trans (bigSep_congr fun o _ => ?_)
  rw [owns_slice_read, slot_set]

theorem slots_of : iprop(∃ f, (c : Thread nD τ).loc cc0_scratch0 ↦{fullShare} f) ⊢ slots (F := F) c := by
  unfold slots
  simp only [owns_ex]
  iintro ⟨%f, H⟩
  ihave H := (Entails.of_eq (slots_at c f)) $$ H
  iapply (mono7 fun o => ?_) $$ H
  iintro H; iexists f; iexact H

include In in
theorem of_slots : slots (F := F) c ⊢ (iprop(∃ f, (c : Thread nD τ).loc cc0_scratch0 ↦{fullShare} f) : sProp 𝕄) := by
  unfold slots
  simp only [owns_ex]
  haveI : ∀ _ : Fin 7, Nonempty (rM.view.ty.Contents (Elt F)) := fun _ => ⟨fun _ => (In c).wt fun a => ⟨0, by fin_cases a <;> decide⟩⟩
  iintro H
  ihave H := (BI.bigSep_exists_pi Finset.univ (fun (o : Fin 7) (f : rM.view.ty.Contents (Elt F)) => ((slotM o).view.loc (c : Thread nD τ) ↦[(slotM o).view.set]{fullShare} f : sProp 𝕄))) $$ H
  icases H with ⟨%f, H⟩
  iexists (fun i : S7x1024x1024.Idx => f (i 0) i)
  iapply (Entails.of_eq (slots_at c (fun i : S7x1024x1024.Idx => f (i 0) i)).symm)
  iapply (mono7 fun o => Entails.of_eq (pointsTo_congr fun i hi => ?_)) $$ H
  rw [slot_set, View.set_slice_whole] at hi
  rw [(slot_mem o i).mp hi]

/-- The output whole at contents `f` is its blocks at `f`. -/
theorem outs_at (f : oM.view.ty.Contents (Elt F)) :
    (oM.view.loc (c : Thread nD τ) ↦{fullShare} f : sProp 𝕄) = bigSep Finset.univ fun j : Dev nD => own c (outM j) fun i => f ((outR j).emb i) := by
  have h := pointsTo_rects (Ix := Unit) (Name := ℕ) (U := UU) (Lvl := ℕ) (c : Thread nD τ) oM fullShare outR (fun _ _ => rfl) out_apart out_cover f
  rw [show (oM.view.set : Finset _) = Finset.univ from View.set_whole _] at h
  exact h

theorem outs_of : iprop(∃ f, (c : Thread nD τ).loc cc0_stg3_0 ↦{fullShare} f) ⊢ outs (F := F) c := by
  unfold outs
  iintro ⟨%f, H⟩
  ihave H := (Entails.of_eq (outs_at c f)) $$ H
  iapply (mono8 fun o => ?_) $$ H
  iintro H; iexists _; iexact H

/-- What every device's output holds: block `j` of rows is device `j`'s sum. -/
def outAt : S8192x1024.Idx → Elt F .bf16 := fun i =>
  R In (outOf i) (fun a => match a with
    | 0 => ⟨(i 0).val % 1024, Nat.mod_lt _ (by decide)⟩
    | 1 => ⟨(i 1).val, (i 1).isLt⟩)

theorem outAt_block (j : Dev nD) (i : S1024x1024.Idx) : outAt In ((outR j).emb i) = R In j i := by
  have h0 : (((outR j).emb i) 0).val = 1024 * j.val + (i 0).val := by show 1024 * j.val + 1 * (i 0).val = _; omega
  have h1 : (((outR j).emb i) 1).val = (i 1).val := by show 0 + 1 * (i 1).val = _; omega
  have hi : (i 0).val < 1024 := (i 0).isLt
  unfold outAt
  rw [show outOf ((outR j).emb i) = j from Fin.ext (by show (((outR j).emb i) 0).val / 1024 = _; rw [h0]; omega)]
  congr 1
  funext a
  match a with
  | 0 => exact Fin.ext (by show (((outR j).emb i) 0).val % 1024 = _; rw [h0]; omega)
  | 1 => exact Fin.ext h1

theorem of_outs : (bigSep Finset.univ fun j : Dev nD => own c (outM j) (R In j)) ⊢ ((c : Thread nD τ).loc cc0_stg3_0 ↦{fullShare} outAt In : sProp 𝕄) := by
  refine .trans ?_ (Entails.of_eq (outs_at c (outAt In)).symm)
  refine mono8 fun j => Entails.of_eq ?_
  congr 1
  exact funext fun i => (outAt_block In j i).symm

end Pieces

end Cert.Mesh

end
-- ==== Proof.Stage.lean ====
/-
  The body between the staged arrays: the pipeline's data and its obligation.
-/
module

public import proofs.«01_k».proof.Proof.Pieces
public import proofs.«01_k».proof.Proof.Gen.KernelIdeal.Points

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Stage

variable (m : (ℓ : Loc nD τ sig) → Buf (Elt F) ℓ) (ρ : Dev nD → PrngReg)

/-- The launch's memory: the arrays as given, every count zero. -/
def s₀ : MemSt nD τ sig (Elt F) := ⟨m, fun _ => 0, ρ⟩

/-- Device `c`'s inputs, as staged from its arrays. -/
def inOf (c : Dev nD) : Ins F where
  x := (win0_0.blk (0 : Fin 1)).view.read (Elt F) ((s₀ m ρ).mem ((c : Thread nD τ).loc main_arg0))
  k := (win0_1.blk (0 : Fin 1)).view.read (Elt F) ((s₀ m ρ).mem ((c : Thread nD τ).loc main_arg1))
  w := (win0_2.blk (0 : Fin 1)).view.read (Elt F) ((s₀ m ρ).mem ((c : Thread nD τ).loc main_arg2))

/-- What device `c` starts from. -/
def start (c : Dev nD) : sProp 𝕄 :=
  iprop((∃ K, cx (inOf m ρ) K) ∗ toks (F := F) c ∗ poss (F := F) c ∗ creds (F := F) c)

/-- Its landing buffer and its sum's. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
/-- Every count of device `c` zero. -/
def sems (c : Dev nD) : sProp 𝕄 :=
  iprop(semVal (bar c) 0 ∗ (bigSep Finset.univ fun o : Fin 7 => (semVal (snd c o) 0 : sProp 𝕄)) ∗ (bigSep Finset.univ fun o : Fin 7 => (semVal (rva c o) 0 : sProp 𝕄))
    ∗ (bigSep Finset.univ fun o : Fin 7 => (semVal (rvb c o) 0 : sProp 𝕄)))

def Φ₀ (c : Dev nD) : sProp 𝕄 := iprop(start m ρ c ∗ scr (F := F) c)
def Φ₁ (c : Dev nD) : sProp 𝕄 := iprop(scr (F := F) c ∗ sems (F := F) c)

/-- The pipeline's data: the arrays, what the body leaves in each staged block, what it holds before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inOf m ρ c).x
    | ⟨1, _⟩ => (inOf m ρ c).k
    | ⟨2, _⟩ => (inOf m ρ c).w
    | ⟨3, _⟩ => outAt (inOf m ρ)
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_all (w : Fin 4) (hw : w ≠ 3) : (cfg0.win w).fetch t0_0 = true := by
  fin_cases w
  · rfl
  · rfl
  · rfl
  · exact absurd rfl hw

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ (F := F) c ∗ (dats m ρ 0 c).owesAt () t0_0.succ ∗ stg c cc0_stg0_0 (inOf m ρ c).x ∗ stg c cc0_stg1_0 (inOf m ρ c).k ∗ stg c cc0_stg2_0 (inOf m ρ c).w
    ∗ stg c cc0_stg3_0 (outAt (inOf m ρ)))

omit [FloatOps F] in
theorem red_ex (c : Dev nD) : iprop(∃ X, own (F := F) c aM X) = (iprop(∃ f : Buf (Elt F) ((c : Thread nD τ).loc cc0_scratch1), ((c : Thread nD τ).loc cc0_scratch1) ↦{fullShare} f) : sProp 𝕄) := by
  rw [owns_ex]; simp only [Memref.view_whole, View.set_whole]

/-- The body takes the staged arrays and leaves the output staged. -/
theorem sound_body (c : Dev nD) (Kt : PUnit → sProp (MT nD τ sig Unit (Elt F) ℕ UU ℕ)) :
    iprop(bodyPre m ρ c ∗ (bodyPost m ρ c -∗ Kt ⟨⟩)) ⊢ run c (cc0__body (F := F) xM (Memref.isWhole_whole _) kM (Memref.isWhole_whole _) wM (Memref.isWhole_whole _) oM (Memref.isWhole_whole _) rM (Memref.isWhole_whole _) aM (Memref.isWhole_whole _) cc0_scratch2 cc0_scratch3 cc0_scratch4) Kt := by
  unfold bodyPre Φ₀ start scr
  iintro ⟨⟨⟨⟨⟨%K, #HC⟩, Ht, Hp, Hc⟩, Hs, Hr⟩, Ho, ⟨%d0, %g0, %h0, H0⟩, ⟨%d1, %g1, %h1, H1⟩, ⟨%d2, %g2, %h2, H2⟩, ⟨%d3, %g3, %h3, H3⟩⟩, Hk⟩
  have e0 : g0 = (inOf m ρ c).x := by rw [h0]; unfold Dat.before; rw [if_pos (fetch_all 0 (by decide))]; rfl
  have e1 : g1 = (inOf m ρ c).k := by rw [h1]; unfold Dat.before; rw [if_pos (fetch_all 1 (by decide))]; rfl
  have e2 : g2 = (inOf m ρ c).w := by rw [h2]; unfold Dat.before; rw [if_pos (fetch_all 2 (by decide))]; rfl
  subst e0 e1 e2
  unfold Dat.owesAt Pipeline.owesWithin
  icases Ho with ⟨%W, %hW, HO⟩
  rw [show (dats m ρ 0 c).owed t0_0.castSucc = O₀ c from rfl]
  ihave Hs := (slots_of (F := F) c) $$ Hs
  ihave Hr := (Entails.of_eq (red_ex (F := F) c).symm) $$ Hr
  iapply (body_run (inOf m ρ) K c) $$ [Ht Hp Hc Hs Hr HO H0 H1 H2 H3]
  · isplitr; · iexact HC
    unfold entry ins
    simp only [Memref.view_whole, View.set_whole]
    isplitl [H0 H1 H2]
    · isplitl [H0]; · iexact H0
      isplitl [H1]; · iexact H1
      iexact H2
    isplitl [H3]
    · iapply (outs_of (F := F) c); iexists g3; iexact H3
    isplitl [Hs]; · iexact Hs
    isplitl [Hr]; · iexact Hr
    isplitl [Ht]; · iexact Ht
    isplitl [Hp]; · iexact Hp
    isplitl [Hc]; · iexact Hc
    unfold ow
    iexists W; iexact HO
  unfold final ins
  simp only [Memref.view_whole, View.set_whole]
  iintro ⟨⟨H0, H1, H2⟩, Ho, Hs, Hr, Hz, HO⟩
  iapply Hk
  ihave Hs := (of_slots (inOf m ρ) c) $$ Hs
  ihave Ho := (of_outs (inOf m ρ) c) $$ Ho
  ihave Hr := (Entails.of_eq (red_ex (F := F) c)) $$ Hr
  unfold bodyPost Φ₁ scr sems Dat.owesAt Pipeline.owesWithin ow
  rw [show (dats m ρ 0 c).owed t0_0.succ = 0 from rfl]
  icases HO with ⟨%W', HO⟩
  isplitl [Hs Hr Hz]
  · isplitr [Hz]
    · isplitl [Hs]; · iexact Hs
      iexact Hr
    iexact Hz
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact Ho

set_option maxRecDepth 4000 in
/-- The pipeline's obligation on device `c`'s body. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ run c (cc0__body (F := F) xM (Memref.isWhole_whole _) kM (Memref.isWhole_whole _) wM (Memref.isWhole_whole _) oM (Memref.isWhole_whole _) rM (Memref.isWhole_whole _) aM (Memref.isWhole_whole _) cc0_scratch2 cc0_scratch3 cc0_scratch4) (fun _ => bodyPost m ρ c)
  iintro H
  iapply (sound_body m ρ c fun _ => bodyPost m ρ c)
  isplitl
  · iexact H
  · iintro H; iexact H

end Stage

end Cert.Mesh

end
-- ==== Proof.Deal.lean ====
/-
  The launch: what every device is dealt at the start, and the run of the whole mesh.
-/
module

public import proofs.«01_k».proof.Proof.Stage

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Launch

/-! ## Cells and rights to pay, enumerated -/

/-- A family over a device's cells: the barrier's, then the three rows. -/
theorem cells_split (Φ : Cx → sProp 𝕄) : bigSep Finset.univ Φ
    = iprop(Φ none ∗ (bigSep Finset.univ fun o : Fin 7 => Φ (some (0, o))) ∗ (bigSep Finset.univ fun o : Fin 7 => Φ (some (1, o))) ∗ (bigSep Finset.univ fun o : Fin 7 => Φ (some (2, o)))) := by
  have h : (Finset.univ : Finset Cx).erase none = Finset.univ.map Function.Embedding.some := by decide
  rw [bigSep_univ_at _ none, h, bigSep_map, bigSep_univ_prod, bigSep_univ_eq_bigSepL [(0 : Fin 3), 1, 2] (by decide) (by decide)]
  rfl

theorem own_split (Φ : Fin 3 × Fin 7 → sProp 𝕄) : bigSep Finset.univ Φ
    = iprop((bigSep Finset.univ fun o : Fin 7 => Φ (0, o)) ∗ (bigSep Finset.univ fun o : Fin 7 => Φ (1, o)) ∗ (bigSep Finset.univ fun o : Fin 7 => Φ (2, o))) := by
  rw [bigSep_univ_prod, bigSep_univ_eq_bigSepL [(0 : Fin 3), 1, 2] (by decide) (by decide)]
  rfl

abbrev cellOf' (ck : Dev nD × Cx) : GSem nD τ sig := cell ck.1 ck.2
theorem cellOf'_injective : Function.Injective (cellOf' : Dev nD × Cx → GSem nD τ sig) := fun a b h =>
  Prod.ext (cell_inj h).1 (cell_inj h).2
def allCells : Finset (GSem nD τ sig) := Finset.univ.map ⟨cellOf', cellOf'_injective⟩

/-- The rights to pay a device's own cells: its barrier's seven, then one for each send, for its second completion, and for each landing. -/
abbrev tokIx : Type := Dev nD × (Fin 5 × Fin 7)
abbrev tokOf (x : tokIx) : GSem nD τ sig × ℕ × Fin 7 := match x with
  | (c, (0, u)) => (bar c, 0, u)
  | (c, (1, o)) => (snd c o, 0, 0)
  | (c, (2, o)) => (snd c o, 1, 0)
  | (c, (3, o)) => (rva c o, 0, 0)
  | (c, (4, o)) => (rvb c o, 0, 0)
/-- The cell of a right, its round and its name, by kind. -/
abbrev tokCell (k : Fin 5 × Fin 7) : Cx × ℕ × Fin 7 := match k with
  | (0, u) => (none, 0, u)
  | (1, o) => (some (0, o), 0, 0)
  | (2, o) => (some (0, o), 1, 0)
  | (3, o) => (some (1, o), 0, 0)
  | (4, o) => (some (2, o), 0, 0)
theorem tokCell_injective : Function.Injective tokCell := by decide
theorem tokOf_eq (c : Dev nD) (k : Fin 5 × Fin 7) : tokOf (c, k) = (cell c (tokCell k).1, (tokCell k).2) := by
  obtain ⟨k, o⟩ := k; fin_cases k <;> rfl
theorem tokOf_injective : Function.Injective tokOf := by
  rintro ⟨c, k⟩ ⟨c', k'⟩ h
  rw [tokOf_eq, tokOf_eq] at h
  have h1 := cell_inj (congrArg Prod.fst h)
  have h2 : tokCell k = tokCell k' := Prod.ext h1.2 (congrArg (fun x : GSem nD τ sig × ℕ × Fin 7 => x.2) h)
  rw [h1.1, tokCell_injective h2]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The rights to pay device `c`'s own cells. -/
def ownToks (c : Dev nD) : sProp 𝕄 :=
  iprop((bigSep Finset.univ fun o : Fin 7 => (dutyTok ER (bar c) 0 o : sProp 𝕄)) ∗ (bigSep Finset.univ fun o : Fin 7 => (dutyTok ER (snd c o) 0 0 : sProp 𝕄)) ∗ (bigSep Finset.univ fun o : Fin 7 => (dutyTok ER (snd c o) 1 0 : sProp 𝕄))
    ∗ (bigSep Finset.univ fun o : Fin 7 => (dutyTok ER (rva c o) 0 0 : sProp 𝕄)) ∗ (bigSep Finset.univ fun o : Fin 7 => (dutyTok ER (rvb c o) 0 0 : sProp 𝕄)))

/-! ## Dealing -/

variable (m : (ℓ : Loc nD τ sig) → Buf (Elt F) ℓ) (ρ : Dev nD → PrngReg)

/-- The schedule at the staged inputs. -/
abbrev Rd : Rounds.Schedule (GSem nD τ sig) (Fin 7) 𝕄 := sched (P (inOf m ρ)) (R (inOf m ρ))

/-- What the launch element deals device `c`. -/
def G (c : Dev nD) : sProp 𝕄 :=
  iprop((bigSep Finset.univ fun k : Cx => roundState ER (Rd m ρ) (cell c k) 0)
    ∗ (bigSep Finset.univ fun k : Cx => iprop(atPos ER (cell c k) 0 ∅ 0 ∗ reached ER (cell c k) 0)) ∗ ownToks (F := F) c)

/-- What all devices share, but for the levels. -/
def shared (K : Dev nD × Cx → ℕ) : sProp 𝕄 :=
  iprop((bigSep Finset.univ fun ck : Dev nD × Cx => cellInv ER (Rd m ρ) (K ck) (cell ck.1 ck.2))
    ∗ (bigSep Finset.univ fun ck : Dev nD × Cx => reached ER (cell ck.1 ck.2) 0))
instance shared_persistent (K : Dev nD × Cx → ℕ) : BI.Persistent (shared m ρ K) := by unfold shared; infer_instance

/-- What the global step makes of it. -/
def G' (c : Dev nD) : sProp 𝕄 := iprop((∃ K, shared m ρ K) ∗ toks (F := F) c ∗ poss (F := F) c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cx => Φ (cell c k) := by
    unfold allCells; rw [bigSep_map, bigSep_univ_prod]; rfl
  have hT : bigSep allToks (fun x => (dutyTok ER x.1 x.2.1 x.2.2 : sProp 𝕄)) = bigSep Finset.univ fun c : Dev nD => ownToks (F := F) c := by
    unfold allToks; rw [bigSep_map, bigSep_univ_prod]
    refine bigSep_congr fun c _ => ?_
    unfold ownToks; rw [bigSep_univ_prod, bigSep_univ_eq_bigSepL [(0 : Fin 5), 1, 2, 3, 4] (by decide) (by decide)]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (bar c) 0 := by
  unfold unscopedSems0; rw [bigSep_eq_bigSepL_of_eq [SemLoc.reg barS] (by decide) (by decide)]; rfl

/-- A device's counts at zero, together. -/
theorem sems_eq (c : Dev nD) : (iprop(Pipeline.ownSems0 (Ix := Unit) (Name := ℕ) (U := UU) (Lvl := ℕ) (Val := Elt F) (τ := τ) osem c ∗ unscopedSems0 c) : sProp 𝕄) = bigSep Finset.univ fun k : Cx => (semVal (cell c k) 0 : sProp 𝕄) := by
  rw [cells_split, unscoped_eq]
  unfold Pipeline.ownSems0
  rw [own_split]
  refine both ?_ ?_
  · iintro ⟨⟨H0, H1, H2⟩, H⟩
    isplitl [H]; · iexact H
    isplitl [H0]; · iexact H0
    isplitl [H1]; · iexact H1
    iexact H2
  · iintro ⟨H, H0, H1, H2⟩
    isplitr [H]
    · isplitl [H0]; · iexact H0
      isplitl [H1]; · iexact H1
      iexact H2
    iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cx => iprop(∃ κ : ℕ, cellInv ER (Rd m ρ) κ (cell c k)))
          ∗ (bigSep Finset.univ fun k : Cx => iprop(atPos ER (cell c k) 0 ∅ 0 ∗ reached ER (cell c k) 0)) ∗ ownToks (F := F) c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun k : Cx => semVal (cell c k) 0) ∗ bigSep Finset.univ fun k : Cx => roundState ER (Rd m ρ) (cell c k) 0)
      ⊢ (|={Set.univ}=> bigSep Finset.univ fun k : Cx => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Every device at an offset, as a rearrangement of devices and offsets; its own inverse. -/
def flip : Dev nD × Fin 7 ≃ Dev nD × Fin 7 where
  toFun x := (pr x.1 x.2, x.2.rev)
  invFun x := (pr x.1 x.2, x.2.rev)
  left_inv x := Prod.ext (pr_rev x.1 x.2) (Fin.rev_rev x.2)
  right_inv x := Prod.ext (pr_rev x.1 x.2) (Fin.rev_rev x.2)
/-- The same, the offset kept. -/
def shift : Dev nD × Fin 7 ≃ Dev nD × Fin 7 where
  toFun x := (pr x.1 x.2, x.2)
  invFun x := (pr x.1 x.2.rev, x.2)
  left_inv x := Prod.ext (pr_rev x.1 x.2) rfl
  right_inv x := Prod.ext (pr_rev' x.1 x.2) rfl

theorem moved (e : Dev nD × Fin 7 ≃ Dev nD × Fin 7) (Φ : Dev nD → Fin 7 → sProp 𝕄) :
    (bigSep Finset.univ fun c : Dev nD => bigSep Finset.univ fun o : Fin 7 => Φ c o) = bigSep Finset.univ fun c : Dev nD => bigSep Finset.univ fun o : Fin 7 => Φ (e (c, o)).1 (e (c, o)).2 := by
  rw [← bigSep_univ_prod fun x : Dev nD × Fin 7 => Φ x.1 x.2, bigSep_univ_equiv e, bigSep_univ_prod]

/-- The rights to pay, dealt to those who pay. -/
theorem toks_around : (bigSep Finset.univ fun c : Dev nD => (ownToks (F := F) c : sProp 𝕄)) ⊢ bigSep Finset.univ fun c : Dev nD => toks (F := F) c := by
  unfold ownToks toks
  simp only [bigSep_sep']
  rw [moved flip fun c o => (dutyTok ER (bar c) 0 o : sProp 𝕄), moved shift fun c o => (dutyTok ER (rva c o) 0 0 : sProp 𝕄), moved shift fun c o => (dutyTok ER (rvb c o) 0 0 : sProp 𝕄)]
  exact .rfl

theorem regroup :
    (bigSep Finset.univ fun c : Dev nD => iprop((bigSep Finset.univ fun k : Cx => iprop(∃ κ : ℕ, cellInv ER (Rd m ρ) κ (cell c k)))
          ∗ (bigSep Finset.univ fun k : Cx => iprop(atPos ER (cell c k) 0 ∅ 0 ∗ reached ER (cell c k) 0)) ∗ ownToks (F := F) c) : sProp 𝕄)
      ⊢ bigSep Finset.univ (G' m ρ) := by
  rw [bigSep_sep', bigSep_sep', ← bigSep_univ_prod (fun ck : Dev nD × Cx => iprop(∃ κ : ℕ, cellInv ER (Rd m ρ) κ (cell ck.1 ck.2))),
    bigSep_congr (s := Finset.univ) (fun (c : Dev nD) _ => bigSep_sep' Finset.univ (fun k : Cx => (atPos ER (cell c k) 0 ∅ 0 : sProp 𝕄)) (fun k => reached ER (cell c k) 0)),
    bigSep_sep', ← bigSep_univ_prod (fun ck : Dev nD × Cx => (reached ER (cell ck.1 ck.2) 0 : sProp 𝕄))]
  iintro ⟨HI, ⟨Hat, #HR⟩, Htok⟩
  ihave HK := (BI.bigSep_exists_pi Finset.univ (fun (ck : Dev nD × Cx) (κ : ℕ) => (cellInv ER (Rd m ρ) κ (cell ck.1 ck.2) : sProp 𝕄))) $$ HI
  icases HK with ⟨%K, #HI⟩
  ihave Htk := (toks_around (F := F)) $$ Htok
  have hG : ∀ c ∈ (Finset.univ : Finset (Dev nD)), iprop(shared m ρ K ∗ (toks (F := F) c ∗ poss (F := F) c)) ⊢ G' m ρ c := fun c _ => by
    unfold G'
    iintro ⟨Hs, Ht, Hp⟩
    isplitl [Hs]; · iexists K; iexact Hs
    isplitl [Ht]; · iexact Ht
    iexact Hp
  iapply (bigSep_with_persistent hG)
  isplitr
  · unfold shared; isplitl; · iexact HI
    iexact HR
  · rw [bigSep_sep']
    isplitl [Htk]; · iexact Htk
    iapply (Entails.of_eq (bigSep_congr (s := Finset.univ) fun (c : Dev nD) _ => show (bigSep Finset.univ fun k : Cx => (atPos ER (cell c k) 0 ∅ 0 : sProp 𝕄)) = poss (F := F) c from by rw [cells_split]; rfl))
    iexact Hat

/-- The global step: every device's counts become cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

end Launch

end Cert.Mesh

end
-- ==== Proof.Launch.lean ====
/-
  The run of the whole mesh: the credits of the launch, its side conditions, and what it leaves.
-/
module

public import proofs.«01_k».proof.Proof.Deal
public import Idealize.ShloMosaic.Lib.Pipeline.CollectiveSegs

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Run

variable (m : (ℓ : Loc nD τ sig) → Buf (Elt F) ℓ) (ρ : Dev nD → PrngReg)

/-! ## The credits of the launch -/

theorem debt7 (f : Fin 7 → CellTallies nD τ sig Unit) (X : CellTallies nD τ sig Unit) :
    debt [0, 1, 2, 3, 4] f (debt [5, 6] f X) = (∑ o, f o) + X := by
  unfold debt
  simp only [List.foldr_cons, List.foldr_nil, Fin.sum_univ_seven, add_assoc]

theorem debt7' (f : Fin 7 → CellTallies nD τ sig Unit) : debt [0, 1, 2, 3, 4, 5, 6] f 0 = ∑ o, f o := by
  unfold debt
  simp only [List.foldr_cons, List.foldr_nil, Fin.sum_univ_seven, add_assoc, add_zero]

theorem debt8 (f : Fin 8 → CellTallies nD τ sig Unit) (X : CellTallies nD τ sig Unit) :
    debt [0, 1, 2, 3, 4, 5, 6, 7] f X = (∑ j, f j) + X := by
  unfold debt
  simp only [List.foldr_cons, List.foldr_nil, Fin.sum_univ_eight, add_assoc]

/-- The partial blocks' debts, by offset instead of by device. -/
theorem sum_dA (c : Dev nD) : (∑ j, dA c j) = ∑ o : Fin 7, tallyAt (rva (pr c o) o) () N :=
  (Fintype.sum_of_injective (pr c) (pr_inj c) _ _ (fun j hj => by
    unfold dA
    by_cases h : j = c
    · rw [if_pos h]
    · exact absurd ⟨off c j, pr_off c j h⟩ hj) (fun o => by
    unfold dA
    rw [if_neg (pr_ne c o), off_pr])).symm

theorem O₀_eq (c : Dev nD) : O₀ c = (∑ o : Fin 7, dBar c o) + ((∑ o : Fin 7, tallyAt (rva (pr c o) o) () N) + ∑ o : Fin 7, dB c o) := by
  have h1 : O₀ c = (∑ o : Fin 7, dBar c o) + OA c := debt7 (dBar c) (OA c)
  have h2 : OA c = (∑ j, dA c j) + OB c := debt8 (dA c) (OB c)
  have h3 : OB c = ∑ o : Fin 7, dB c o := debt7' (dB c)
  rw [h1, h2, h3, sum_dA]

/-- Seven credits of one unit are a credit of seven. -/
theorem seven (g : GSem nD τ sig) : (bigSep Finset.univ fun _ : Fin 7 => (cred (tallyAt g () 1) : sProp 𝕄)) ⊢ cred (tallyAt g () 7) := by
  have h2 (n : ℕ) : (iprop(cred (tallyAt g () 1) ∗ cred (tallyAt g () n)) : sProp 𝕄) ⊢ cred (tallyAt g () (1 + n)) := by
    rw [← tallyAt_add]; exact (cred_add _ _).2
  rw [all7]
  simp only [all_cons, all_nil]
  iintro ⟨H0, H1, H2, H3, H4, H5, H6, -⟩
  iapply (h2 6); isplitl [H0]; · iexact H0
  iapply (h2 5); isplitl [H1]; · iexact H1
  iapply (h2 4); isplitl [H2]; · iexact H2
  iapply (h2 3); isplitl [H3]; · iexact H3
  iapply (h2 2); isplitl [H4]; · iexact H4
  iapply (h2 1); isplitl [H5]; · iexact H5
  iexact H6

theorem creds_of (c : Dev nD) : (Pipeline.launchCred O₀ c : sProp 𝕄) ⊢ creds (F := F) c := by
  rw [show O₀ = fun c => (∑ o : Fin 7, dBar c o) + ((∑ o : Fin 7, tallyAt (rva (pr c o) o) () N) + ∑ o : Fin 7, dB c o) from funext O₀_eq,
    Pipeline.launchCred_add, Pipeline.launchCred_add, Pipeline.launchCred_sum, Pipeline.launchCred_sum, Pipeline.launchCred_sum]
  unfold creds dBar dB
  iintro ⟨H0, H1, H2⟩
  isplitl [H0]
  · iapply (seven (F := F) (bar c))
    iapply (mono7 fun o => Pipeline.launchCred_tallyAt (csem none) (fun d => pr d o) (fun d => pr d o.rev) (fun d => pr_rev' d o) (fun d => pr_rev d o) () 1 c) $$ H0
  isplitl [H1]
  · iapply (mono7 fun o => Pipeline.launchCred_tallyAt (csem (some (1, o))) (fun d => pr d o) (fun d => pr d o.rev) (fun d => pr_rev' d o) (fun d => pr_rev d o) () N c) $$ H1
  iapply (mono7 fun o => Pipeline.launchCred_tallyAt (csem (some (2, o))) (fun d => pr d o) (fun d => pr d o.rev) (fun d => pr_rev' d o) (fun d => pr_rev d o) () N c) $$ H2

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start shared cx ctx
  iintro ⟨-, Hlev, Hcr, -, ⟨%K, HI, HR⟩, Ht, Hp⟩
  ihave Hc := (creds_of (F := F) c) $$ Hcr
  imodintro
  isplitl
  · isplitl [HI HR Hlev]
    · iexists K
      isplitl [HI]; · iexact HI
      isplitl [HR]; · iexact HR
      iexact Hlev
    isplitl [Ht]; · iexact Ht
    isplitl [Hp]; · iexact Hp
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscoped_eq]
  unfold Φ₁ scr sems Pipeline.ownSems0
  rw [own_split]
  iintro ⟨Hr, Hz, H0, H1, H2⟩
  isplitl [Hz]; · iexact Hz
  isplitl [H0 H1 H2]
  · isplitl [H0]; · iexact H0
    isplitl [H1]; · iexact H1
    iexact H2
  iexact Hr

theorem above_O₀ (c : Dev nD) : Above 0 (O₀ c) := by
  unfold O₀
  exact above_debt _ _ (above_dBar c) (above_debt _ _ (above_dBar c) (above_mono (by omega) (above_dAs c _)))

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> decide) (by
      rcases t with ⟨_ | _, ht⟩
      · exact above_O₀ c
      · exact above_zero 0)

theorem ownSemFacts : Pipeline.OwnSemFacts cfg0.spec osem := by decide
theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any arrays with every count zero, for any float values, every fair run of the mesh ends, each device's arrays holding
    what the pipeline computes and every count zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold after the run what they held. -/
theorem finalA_x (c : Dev nD) : finalA m ρ c (0 : Fin 4) = m ((c : Thread nD τ).loc main_arg0) := (dats (F := F) m ρ 0 c).arrAt_in (0 : Fin 4) rfl _
theorem finalA_k (c : Dev nD) : finalA m ρ c (1 : Fin 4) = m ((c : Thread nD τ).loc main_arg1) := (dats (F := F) m ρ 0 c).arrAt_in (1 : Fin 4) rfl _
theorem finalA_w (c : Dev nD) : finalA m ρ c (2 : Fin 4) = m ((c : Thread nD τ).loc main_arg2) := (dats (F := F) m ρ 0 c).arrAt_in (2 : Fin 4) rfl _

end Run

end Cert.Mesh

end
-- ==== Proof.Frames.lean ====
/-
  The claims about runs: the kernel, the kernel at the extended reals and the reference each end, their arguments as they
  were and every count zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Frames

variable (m : (ℓ : Loc nD τ sig) → Buf (Elt F) ℓ) (ρ : Dev nD → PrngReg)

/-- What the run of the mesh leaves in the argument arrays. -/
theorem run_frame : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => ⟨(h.1 c (0 : Fin 4)).trans (finalA_x m ρ c), (h.1 c (1 : Fin 4)).trans (finalA_k m ρ c),
    (h.1 c (2 : Fin 4)).trans (finalA_w m ρ c)⟩, h.2⟩) (run_main m ρ)

/-- The kernel and the kernel at the extended reals are one text. -/
theorem defs₀_eq : (Cert.Kernel.defs₀ (F := F)) = Cert.KernelIdeal.defs₀ :=
  congrArg Defs.onTc (funext fun l => funext fun a => by
    match l, a with
    | 0, (_, _) => rfl
    | ⟨_ + 1, h⟩, _ => exact absurd h (Nat.not_lt.2 (Nat.le_add_left _ _)))

theorem defs_eq : (Cert.Kernel.defs (F := F)) = Cert.KernelIdeal.defs := congrArg (Pipeline.defs Cert.KernelIdeal.pcfgs) defs₀_eq

/-- The kernel's frame. -/
theorem frame_kernel : Cert.quiescent_Kernel := fun m ρ _ => by
  rw [defs_eq]
  exact run_frame (F := Bits) m ρ

/-- The frame of the kernel at the extended reals. -/
theorem frame_ideal : Cert.quiescent_KernelIdeal := fun m ρ _ => run_frame (F := Ideal) m ρ

/-- The reference's frame: it writes no argument and has no counts. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- The result array holds what the kernel's blocks make together. -/
theorem finalA_out (c : Dev nD) : finalA m ρ c (3 : Fin 4) = outAt (inOf m ρ) := by
  have h : (win0_3.blk (0 : Fin 1)).view.read (Elt F) (finalA m ρ c (3 : Fin 4)) = outAt (inOf m ρ) := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  have hz : (fun a => (win0_3.index (0 : Fin 1)) a * main_v1.ty.shape.size a) = fun _ => 0 := funext fun a => by fin_cases a <;> decide
  rw [Memref.read_access_unit_zero (Elt F) main_v1 hz (fun a => by fin_cases a <;> decide)] at h
  exact h

end Frames

end Cert.Mesh

end
-- ==== Proof.Chunk.lean ====
/-
  What one device's partial block is over the extended reals: row by row, the sum of the contributions of the device's channels.
-/
module

public import proofs.«01_k».proof.Proof.Rows
public import proofs.«01_k».proof.Proof.Frames

@[expose] public section

noncomputable section

namespace Cert.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Chunk

variable {F : FTy → Type} [FloatOps F] (I : Ins F)

/-- The rows a chunk is computed from: its own after the three before. -/
def Ins.pad (j : Dev nD) : FVec F S1027x1024 .f32 := match j with
  | 0 => k0_pay2 (I.xHead 0)
  | 1 => k0_pay6 (I.xTail 0 0)
  | 2 => k0_pay6 (I.xTail 0 1)
  | 3 => k0_pay6 (I.xTail 0 2)
  | 4 => k0_pay2 (I.xHead 1)
  | 5 => k0_pay6 (I.xTail 1 0)
  | 6 => k0_pay6 (I.xTail 1 1)
  | 7 => k0_pay6 (I.xTail 1 2)

/-- A row of taps under every row of a block. -/
def under (p : Vec F S1x1024 .f32) : FVec F S1024x1024 .f32 := broadcastTo S1024x1024 p broadcasts_S1x1024_S1024x1024

/-- The partial block from the padded rows: one text for all chunks. -/
def chunk (p : FVec F S1027x1024 .f32) (t : Fin 4 → Vec F S1x1024 .f32) (w : FVec F S1024x1024 .bf16) : FVec F S1024x1024 .bf16 :=
  k0_pay35 w (addf (addf (addf (mulf (extractStridedSlice S1024x1024 ![3, 0] p slices_S1027x1024_o3_0_S1024x1024) (under (t 3)))
      (mulf (extractStridedSlice S1024x1024 ![0, 0] p slices_S1027x1024_o0_0_S1024x1024) (under (t 0))))
      (mulf (extractStridedSlice S1024x1024 ![1, 0] p slices_S1027x1024_o1_0_S1024x1024) (under (t 1))))
      (mulf (extractStridedSlice S1024x1024 ![2, 0] p slices_S1027x1024_o2_0_S1024x1024) (under (t 2))))

theorem part_eq (j : Dev nD) : I.part j = chunk (I.pad j) (fun t => shapeCast S1x1024 (I.tap t) shapeCasts_S1x1024_S1x1024) I.wt := by
  fin_cases j <;> rfl

/-- A partial block at an index, over the extended reals. -/
theorem chunk_apply (p : FVec Ideal S1027x1024 .f32) (t : Fin 4 → Vec Ideal S1x1024 .f32) (w : FVec Ideal S1024x1024 .bf16) (r o : Fin 1024) :
    chunk p t w (ix2 r o) = ∑ e : Fin 1024,
      silu (p (ix2 ⟨3 + r.val, by omega⟩ e) * t 3 (ix2 0 e) + p (ix2 ⟨r.val, by omega⟩ e) * t 0 (ix2 0 e)
        + p (ix2 ⟨1 + r.val, by omega⟩ e) * t 1 (ix2 0 e) + p (ix2 ⟨2 + r.val, by omega⟩ e) * t 2 (ix2 0 e)) * w (ix2 e o) := by
  simp only [← mul_logistic]
  pointwise [chunk, k0_pay35, under]

omit [FloatOps F] in
/-- A load of consecutive rows of the activations. -/
theorem rows_apply {N : ℕ} (a b : ℕ) (h) (f : S2x4096x1024.Idx → Elt F .bf16) (r : Fin N) (e : Fin 1024) (ha : a < 2) (hb : b + r.val < 4096) :
    (xM : Memref sig .tc .vmem S2x4096x1024 .bf16).view.readAt (Elt F) (Rect.unit (s := S2x4096x1024) ![a, b, 0] ![1, N, 1024] h).toLoadRect f
      (ix3 (0 : Fin 1) r e : (⟨3, ![1, N, 1024]⟩ : Shape).Idx) = f (ix3 ⟨a, ha⟩ ⟨b + r.val, hb⟩ e) :=
  congrArg f (funext fun k => Fin.ext (match k with
    | ⟨0, _⟩ => (show a + 1 * 0 = a by omega)
    | ⟨1, _⟩ => (show b + 1 * r.val = b + r.val by omega)
    | ⟨2, _⟩ => (show 0 + 1 * e.val = e.val by omega)))

omit [FloatOps F] in
theorem xHead_apply (b : Fin 2) (r e : Fin 1024) : I.xHead b (ix3 0 r e) = I.x (ix3 b ⟨0 + r.val, by omega⟩ e) := by
  fin_cases b <;> exact rows_apply _ _ _ I.x r e (by omega) (by omega)

omit [FloatOps F] in
theorem xTail_apply (b : Fin 2) (h : Fin 3) (r : Fin 1027) (e : Fin 1024) :
    I.xTail b h (ix3 0 r e) = I.x (ix3 b ⟨1024 * h.val + 1021 + r.val, by omega⟩ e) := by
  fin_cases b <;> fin_cases h <;> exact rows_apply _ _ _ I.x r e (by omega) (by omega)

omit [FloatOps F] in
theorem tap_apply (t : Fin 4) (e : Fin 1024) : I.tap t (ix2 0 e) = I.k (ix2 t e) := by
  have h (a : ℕ) (h) (ha : a < 4) : (kM : Memref sig .tc .vmem S4x1024 .f32).view.readAt (Elt F) (Rect.unit (s := S4x1024) ![a, 0] S1x1024.size h).toLoadRect I.k
      (ix2 0 e : S1x1024.Idx) = I.k (ix2 ⟨a, ha⟩ e) :=
    congrArg I.k (funext fun k => Fin.ext (match k with
      | ⟨0, _⟩ => (show a + 1 * 0 = a by omega)
      | ⟨1, _⟩ => (show 0 + 1 * e.val = e.val by omega)))
  fin_cases t <;> exact h _ _ (by omega)

omit [FloatOps F] in
theorem wt_apply (I : Ins Ideal) (e o : Fin 1024) : I.wt (ix2 e o) = I.w (ix2 e o) := by
  have h : (wM : Memref sig .tc .vmem S1024x1024 .bf16).view.readAt (Elt Ideal)
      (Rect.unit (s := S1024x1024) ![0, 0] S1024x1024.size inb_S1024x1024_S1024x1024_0_0).toLoadRect I.w (ix2 e o : S1024x1024.Idx) = I.w (ix2 e o) :=
    congrArg I.w (funext fun k => Fin.ext (match k with
      | ⟨0, _⟩ => (show 0 + 1 * e.val = e.val by omega)
      | ⟨1, _⟩ => (show 0 + 1 * o.val = o.val by omega)))
  rw [← h]
  unfold Ins.wt
  generalize (wM : Memref sig .tc .vmem S1024x1024 .bf16).view.readAt (Elt Ideal) _ I.w = v
  pointwise [k0_pay1]

/-- The batch entry of chunk `j`. -/
def bOf (j : Fin 8) : Fin 2 := ⟨j.val / 4, by omega⟩

theorem head_apply (v : Vec Ideal S1x1024x1024 .bf16) (r : Fin 1027) (e : Fin 1024) :
    (k0_pay2 (F := Ideal) v (ix2 r e) : EReal) = if h : r.val < 3 then (0 : EReal) else v (ix3 0 ⟨r.val - 3, by omega⟩ e) := by
  pointwise [k0_pay2]

theorem tail_apply (v : Vec Ideal S1x1027x1024 .bf16) (r : Fin 1027) (e : Fin 1024) : (k0_pay6 (F := Ideal) v (ix2 r e) : EReal) = v (ix3 0 r e) := by
  pointwise [k0_pay6]

/-- The rows a chunk is computed from are rows of the padded activations. -/
theorem pad_apply (I : Ins Ideal) (j : Dev nD) (r : Fin 1027) (e : Fin 1024) :
    I.pad j (ix2 r e) = padded I.x (bOf j) ⟨1024 * (j.val % 4) + r.val, by omega⟩ e := by
  have hh (b : Fin 2) : (k0_pay2 (F := Ideal) (I.xHead b) (ix2 r e) : EReal) = padded I.x b ⟨1024 * 0 + r.val, by omega⟩ e := by
    rw [head_apply]; unfold padded
    refine dite_congr (by simp) (fun _ => rfl) (fun h => ?_)
    rw [xHead_apply]; congr 3; simp
  have ht (b : Fin 2) (h : Fin 3) : (k0_pay6 (F := Ideal) (I.xTail b h) (ix2 r e) : EReal) = padded I.x b ⟨1024 * (h.val + 1) + r.val, by omega⟩ e := by
    rw [tail_apply, xTail_apply]; unfold padded
    rw [dif_neg (by simp; omega)]
    congr 3; simp; omega
  fin_cases j
  · exact hh 0
  · exact ht 0 0
  · exact ht 0 1
  · exact ht 0 2
  · exact hh 1
  · exact ht 1 0
  · exact ht 1 1
  · exact ht 1 2

/-- A partial block is, row by row, the sum of what the device's channels contribute. -/
theorem part_apply (I : Ins Ideal) (j : Dev nD) (r o : Fin 1024) :
    (I.part j (ix2 r o) : EReal) = ∑ e : Fin 1024, term I.x I.k I.w (bOf j) ⟨1024 * (j.val % 4) + r.val, by omega⟩ o e := by
  have ht (t : Fin 4) (e : Fin 1024) : shapeCast S1x1024 (I.tap t) shapeCasts_S1x1024_S1x1024 (ix2 0 e) = I.k (ix2 t e) := by
    rw [← tap_apply I t e]
    generalize I.tap t = v
    pointwise
  rw [part_eq, chunk_apply]
  refine Finset.sum_congr rfl fun e _ => ?_
  unfold term
  rw [← conv_last_first, pad_apply, pad_apply, pad_apply, pad_apply, ht, ht, ht, ht, wt_apply]
  simp only [add_assoc, add_comm r.val]

end Chunk

section Sum

/-- A sum over the devices is device `c`'s own term and those of the seven others. -/
theorem sum_others {M : Type} [AddCommMonoid M] (c : Dev nD) (f : Dev nD → M) : f c + ∑ o : Fin 7, f (pr c o.rev) = ∑ d, f d := by
  have h1 : ∑ o : Fin 7, f (pr c o.rev) = ∑ d : Dev nD, if d = c then 0 else f d := by
    rw [show (∑ o : Fin 7, f (pr c o.rev)) = ∑ o : Fin 7, f (pr c o) from Equiv.sum_comp Fin.revPerm fun o => f (pr c o)]
    exact Fintype.sum_of_injective (pr c) (pr_inj c) _ _
      (fun d hd => if_pos (by_contra fun h => hd ⟨off c d, pr_off c d h⟩)) (fun o => (if_neg (pr_ne c o)).symm)
  have h2 : f c = ∑ d : Dev nD, if d = c then f d else 0 := by simp
  rw [h1]
  conv_lhs => rw [h2]
  rw [← Finset.sum_add_distrib]
  refine Finset.sum_congr rfl fun d _ => ?_
  by_cases h : d = c <;> simp [h]

variable (In : Dev nD → Ins Ideal)

theorem up_apply (X : Blk Ideal) (r o : Fin 1024) : up X (ix3 0 r o) = X (ix2 r o) := by
  have h : S1024x1024.ShapeCasts S1x1024x1024 := by decide
  have hu : up X = shapeCast S1x1024x1024 X h := rfl
  rw [hu]
  pointwise

/-- Device `c`'s sum is the sum of all devices' partial blocks for its rows. -/
theorem R_apply (c : Dev nD) (r o : Fin 1024) : (R In c (ix2 r o) : EReal) = ∑ d, (P In d c (ix2 r o) : EReal) := by
  have h (a : Blk Ideal) (g : Fin 7 → Vec Ideal S1x1024x1024 .bf16) :
      (k0_pay38 (F := Ideal) (k0_pay37 (k0_pay36 a (g 0)) (g 1) (g 2) (g 3)) (g 4) (g 5) (g 6) (ix2 r o) : EReal) = a (ix2 r o) + ∑ q : Fin 7, g q (ix3 0 r o) := by
    rw [Fin.sum_univ_seven]
    pointwise [k0_pay38, k0_pay37, k0_pay36]
    simp only [add_assoc]
  unfold R
  rw [h (P In c c) (got In c), ← sum_others c]
  simp only [up_apply]

/-- Row `r` of block `j` of the result, over the extended reals. -/
theorem outAt_apply (j : Dev nD) (r o : Fin 1024) :
    (outAt In (ix2 ⟨1024 * j.val + r.val, by have := j.isLt; have h : nD = 8 := rfl; omega⟩ o) : EReal)
      = ∑ d : Dev nD, ∑ e : Fin 1024, term (In d).x (In d).k (In d).w (bOf j) ⟨1024 * (j.val % 4) + r.val, by omega⟩ o e := by
  have h := outAt_block In j (ix2 r o)
  have hi : (outR j).emb (ix2 r o) = ix2 ⟨1024 * j.val + r.val, by have := j.isLt; have h : nD = 8 := rfl; omega⟩ o := funext fun k => Fin.ext (match k with
      | ⟨0, _⟩ => (show 1024 * j.val + 1 * r.val = 1024 * j.val + r.val by omega)
      | ⟨1, _⟩ => (show 0 + 1 * o.val = o.val by omega))
  rw [hi] at h
  rw [h, R_apply]
  exact Finset.sum_congr rfl fun d _ => part_apply (In d) j r o

end Sum

end Cert.Mesh

end
-- ==== Proof.Ref.lean ====
/-
  The reference over the extended reals: each element of its result is the sum of what all channels contribute.
-/
module

public import proofs.«01_k».proof.Proof.Rows
public import proofs.«01_k».proof.Proof.Gen.ReferenceIdeal.Run

@[expose] public section

noncomputable section

namespace Cert.Mesh.Ref

open Cert.ReferenceIdeal Cert.ReferenceIdeal.Gen Cert.ReferenceIdeal.Value
open Idealize.ShloMosaic
open Idealize.ShloMosaic.TcCoe
open scoped BigOperators

variable (m : (ℓ : Loc nD τ sig) → Buf (Elt Ideal) ℓ) (c : Dev nD)

theorem padded_last {C : ℕ} (x : (⟨3, ![2, 4096, C]⟩ : Shape).Idx → EReal) (b : Fin 2) (n : Fin 4096) (e : Fin C) :
    padded x b ⟨n.val + 3, by omega⟩ e = x (ix3 b n e) := by
  unfold padded
  rw [dif_neg (by show ¬ n.val + 3 < 3; omega)]
  rfl

/-- Element `(4096 b + n, o)` of the reference's result. -/
theorem out_apply (b : Fin 2) (n : Fin 4096) (o : Fin 1024) :
    (res_out0 (F := Ideal) m c (ix2 ⟨4096 * b.val + n.val, by omega⟩ o) : EReal)
      = ∑ e : Fin 8192, term (C := 8192) (m ((c : Thread nD τ).loc main_arg0)) (m ((c : Thread nD τ).loc main_arg1)) (m ((c : Thread nD τ).loc main_arg2)) b n o e := by
  unfold res_out0 res_main_v40
  pointwise
  refine Finset.sum_congr (M := EReal) rfl fun e _ => ?_
  unfold term silu
  rw [← conv_in_turn, zero_add, padded_last]
  unfold padded
  simp only [add_comm n.val]

end Cert.Mesh.Ref

end
-- ==== Proof.Value.lean ====
/-
  The equation: over the extended reals, every device's result array ends holding what the reference computes from the whole
  arrays whose blocks the devices hold.
-/
module

public import proofs.«01_k».proof.Proof.Chunk
public import proofs.«01_k».proof.Proof.Ref
public import Idealize.ShloMosaic.Lib.Layout

@[expose] public section

noncomputable section

namespace Cert.Mesh

open Cert.KernelIdeal Cert.KernelIdeal.Gen
open Idealize.ShloMosaic
open Idealize.ShloMosaic.TcCoe
open Idealize.SL.Sem
open scoped BigOperators

/-- Channel `e` of device `d`'s block, among all the channels. -/
def ch (d : Fin 8) (e : Fin 1024) : Fin 8192 := ⟨d.val * 1024 + e.val, by have := d.isLt; have := e.isLt; omega⟩

section Blocks

variable (X : (⟨3, ![2, 4096, 8192]⟩ : Shape).Idx → EReal) (K : (⟨2, ![4, 8192]⟩ : Shape).Idx → EReal)
  (W : (⟨2, ![8192, 1024]⟩ : Shape).Idx → EReal) (d : Fin 8)

theorem block_x (b : Fin 2) (n : Fin 4096) (e : Fin 1024) :
    (Layout.block ⟨3, ![2, 4096, 1024]⟩ ⟨3, ![2, 4096, 8192]⟩ 2 8 d X) (ix3 b n e) = X (ix3 b n (ch d e)) :=
  congrArg X (funext fun a => Fin.ext (by fin_cases a <;> rfl))

theorem block_k (t : Fin 4) (e : Fin 1024) :
    (Layout.block ⟨2, ![4, 1024]⟩ ⟨2, ![4, 8192]⟩ 1 8 d K) (ix2 t e) = K (ix2 t (ch d e)) :=
  congrArg K (funext fun a => Fin.ext (by fin_cases a <;> rfl))

theorem block_w (e o : Fin 1024) :
    (Layout.block ⟨2, ![1024, 1024]⟩ ⟨2, ![8192, 1024]⟩ 0 8 d W) (ix2 e o) = W (ix2 (ch d e) o) :=
  congrArg W (funext fun a => Fin.ext (by fin_cases a <;> rfl))

/-- A channel contributes the same whether read in a device's blocks or in the whole arrays. -/
theorem term_block (b : Fin 2) (n : Fin 4096) (o e : Fin 1024) :
    term (Layout.block ⟨3, ![2, 4096, 1024]⟩ ⟨3, ![2, 4096, 8192]⟩ 2 8 d X) (Layout.block ⟨2, ![4, 1024]⟩ ⟨2, ![4, 8192]⟩ 1 8 d K)
      (Layout.block ⟨2, ![1024, 1024]⟩ ⟨2, ![8192, 1024]⟩ 0 8 d W) b n o e = term X K W b n o (ch d e) := by
  unfold term conv padded
  simp only [block_x, block_k, block_w]

end Blocks

/-- Summing over the devices and each device's channels is summing over all the channels. -/
theorem sum_channels (f : Fin 8192 → EReal) : ∑ d : Fin 8, ∑ e : Fin 1024, f (ch d e) = ∑ c : Fin 8192, f c := by
  rw [← Fintype.sum_prod_type' (fun d e => f (ch d e)), ← Equiv.sum_comp (finProdFinEquiv (m := 8) (n := 1024)) f]
  refine Finset.sum_congr rfl fun p _ => congrArg f (Fin.ext ?_)
  show p.1.val * 1024 + p.2.val = p.2.val + 1024 * p.1.val
  omega

section Blocks

variable (m : (ℓ : Loc nD τ sig) → Buf (Elt Ideal) ℓ) (ρ : Dev nD → PrngReg) (c : Dev nD)

theorem inOf_x : (inOf m ρ c).x = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

theorem inOf_k : (inOf m ρ c).k = m ((c : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) _

theorem inOf_w : (inOf m ρ c).w = m ((c : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) _

end Blocks

/-- An index of the result is a row of some chunk and a column. -/
theorem result_index (i : S8192x1024.Idx) : ∃ (j : Fin 8) (r o : Fin 1024), i = ix2 ⟨1024 * j.val + r.val, by have := j.isLt; have := r.isLt; omega⟩ o := by
  have h0 : (i 0).val < 8192 := (i 0).isLt
  refine ⟨⟨(i 0).val / 1024, by omega⟩, ⟨(i 0).val % 1024, by omega⟩, i 1, funext fun a => ?_⟩
  fin_cases a
  · exact Fin.ext (show (i 0).val = 1024 * ((i 0).val / 1024) + (i 0).val % 1024 by omega)
  · rfl

/-- The blocks of whole arrays make the reference's result of the whole arrays. -/
theorem outAt_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hx : ∀ c : Dev nD, m ((c : Thread nD τ).loc main_arg0) = Layout.block ⟨3, ![2, 4096, 1024]⟩ ⟨3, ![2, 4096, 8192]⟩ 2 8 c
      (m' (((0 : Dev Cert.ReferenceIdeal.nD).tc : Thread Cert.ReferenceIdeal.nD Cert.ReferenceIdeal.τ).loc Cert.ReferenceIdeal.main_arg0)))
    (hk : ∀ c : Dev nD, m ((c : Thread nD τ).loc main_arg1) = Layout.block ⟨2, ![4, 1024]⟩ ⟨2, ![4, 8192]⟩ 1 8 c
      (m' (((0 : Dev Cert.ReferenceIdeal.nD).tc : Thread Cert.ReferenceIdeal.nD Cert.ReferenceIdeal.τ).loc Cert.ReferenceIdeal.main_arg1)))
    (hw : ∀ c : Dev nD, m ((c : Thread nD τ).loc main_arg2) = Layout.block ⟨2, ![1024, 1024]⟩ ⟨2, ![8192, 1024]⟩ 0 8 c
      (m' (((0 : Dev Cert.ReferenceIdeal.nD).tc : Thread Cert.ReferenceIdeal.nD Cert.ReferenceIdeal.τ).loc Cert.ReferenceIdeal.main_arg2))) :
    outAt (inOf m ρ) = Cert.ReferenceIdeal.Value.res_main_v40 (F := Ideal) m' 0 := by
  funext i
  obtain ⟨j, r, o, rfl⟩ := result_index i
  have hj := j.isLt
  have hr := r.isLt
  have hi : (ix2 ⟨1024 * j.val + r.val, by omega⟩ o : S8192x1024.Idx)
      = ix2 ⟨4096 * (bOf j).val + (⟨1024 * (j.val % 4) + r.val, by omega⟩ : Fin 4096).val, by show 4096 * (j.val / 4) + (1024 * (j.val % 4) + r.val) < 8192; omega⟩ o :=
    congrArg (ix2 · o) (Fin.ext (show 1024 * j.val + r.val = 4096 * (j.val / 4) + (1024 * (j.val % 4) + r.val) by omega))
  refine (outAt_apply (inOf m ρ) j r o).trans ?_
  refine Eq.trans ?_ (congrArg (Cert.ReferenceIdeal.Value.res_main_v40 (F := Ideal) m' 0) hi).symm
  refine Eq.trans ?_ (Ref.out_apply m' 0 (bOf j) ⟨1024 * (j.val % 4) + r.val, by omega⟩ o).symm
  refine Eq.trans ?_ (sum_channels _)
  refine Finset.sum_congr rfl fun d _ => Finset.sum_congr rfl fun e _ => ?_
  rw [inOf_x, inOf_k, inOf_w, hx, hk, hw]
  exact term_block _ _ _ d _ _ o e

/-- Every device's result array ends holding the reference's result. -/
theorem algebraic : Cert.algebraic_KernelIdeal_ReferenceIdeal := fun m ρ m' ρ' _ h =>
  ⟨Cert.ReferenceIdeal.Value.res_main_v40 (F := Ideal) m' 0,
    (θ_run defs _ _).mono (fun _ H c => ⟨((H.1 c (3 : Fin 4)).trans (finalA_out m ρ c)).trans
        (outAt_eq m ρ m' (fun c => (h c).1) (fun c => (h c).2.1) fun c => (h c).2.2),
      (H.1 c (0 : Fin 4)).trans (finalA_x m ρ c), (H.1 c (1 : Fin 4)).trans (finalA_k m ρ c), (H.1 c (2 : Fin 4)).trans (finalA_w m ρ c)⟩)
      (run_main m ρ),
    (θ_run Cert.ReferenceIdeal.defs _ _).mono (fun _ H => H 0) (Cert.ReferenceIdeal.Value.run (F := Ideal) m' ρ')⟩

end Cert.Mesh

end
-- ==== Proof.lean ====
/-
  The certificate of the eight-device gated causal convolution and projection: the kernel, the kernel over the extended reals
  and the reference each run to the end with their arguments as they were and every count at zero, and over the extended
  reals every device's result is the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Cert.Mesh

/-- The three frames, the kernel's text kept over the extended reals, and the equation with the reference. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
